-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x19200x4 : Shape := ⟨3, ![2, 19200, 4]⟩
abbrev S2x3x80x80 : Shape := ⟨4, ![2, 3, 80, 80]⟩
abbrev S2x12x80x80 : Shape := ⟨4, ![2, 12, 80, 80]⟩
abbrev S2x80x80x3 : Shape := ⟨4, ![2, 80, 80, 3]⟩
abbrev S2x19200 : Shape := ⟨2, ![2, 19200]⟩
abbrev S2x3x4x80x80 : Shape := ⟨5, ![2, 3, 4, 80, 80]⟩
abbrev S2x80x80x3x4 : Shape := ⟨5, ![2, 80, 80, 3, 4]⟩
abbrev S2x1000 : Shape := ⟨2, ![2, 1000]⟩
abbrev S2x19200x8 : Shape := ⟨3, ![2, 19200, 8]⟩
abbrev S2x1000x1 : Shape := ⟨3, ![2, 1000, 1]⟩
abbrev S2x300x5 : Shape := ⟨3, ![2, 300, 5]⟩
abbrev S1x19200x8 : Shape := ⟨3, ![1, 19200, 8]⟩
abbrev S1x1000x1 : Shape := ⟨3, ![1, 1000, 1]⟩
abbrev S1x300x5 : Shape := ⟨3, ![1, 300, 5]⟩
abbrev S1000x1000 : Shape := ⟨2, ![1000, 1000]⟩
abbrev S19200x8 : Shape := ⟨2, ![19200, 8]⟩
abbrev S1000x1 : Shape := ⟨2, ![1000, 1]⟩
abbrev S1000x8 : Shape := ⟨2, ![1000, 8]⟩
abbrev S2400x8 : Shape := ⟨2, ![2400, 8]⟩
abbrev S1000x2400 : Shape := ⟨2, ![1000, 2400]⟩
abbrev S1000x4 : Shape := ⟨2, ![1000, 4]⟩
abbrev S1 : Shape := ⟨1, ![1]⟩
abbrev S1x1x1 : Shape := ⟨3, ![1, 1, 1]⟩
abbrev S1000x6 : Shape := ⟨2, ![1000, 6]⟩
abbrev S6x1000 : Shape := ⟨2, ![6, 1000]⟩
abbrev S1x1000 : Shape := ⟨2, ![1, 1000]⟩
abbrev S1x1x1000 : Shape := ⟨3, ![1, 1, 1000]⟩
abbrev S300x1000 : Shape := ⟨2, ![300, 1000]⟩
abbrev S1000x5 : Shape := ⟨2, ![1000, 5]⟩
abbrev S300x5 : Shape := ⟨2, ![300, 5]⟩

abbrev nBuf : Space → Nat
  | .hbm => 14
  | .vmem => 9
  | .smem => 0
  | _ => 0

abbrev bufTy : (tb : Table) → Fin (tcTables nBuf tb) → BufTy
  | .hbm, ⟨0, _⟩ => ⟨S2x19200x4, .f32⟩
  | .hbm, ⟨1, _⟩ => ⟨S2x3x80x80, .f32⟩
  | .hbm, ⟨2, _⟩ => ⟨S2x12x80x80, .f32⟩
  | .hbm, ⟨3, _⟩ => ⟨S2x80x80x3, .f32⟩
  | .hbm, ⟨4, _⟩ => ⟨S2x19200, .f32⟩
  | .hbm, ⟨5, _⟩ => ⟨S2x3x4x80x80, .f32⟩
  | .hbm, ⟨6, _⟩ => ⟨S2x80x80x3x4, .f32⟩
  | .hbm, ⟨7, _⟩ => ⟨S2x19200x4, .f32⟩
  | .hbm, ⟨8, _⟩ => ⟨S2x1000, .f32⟩
  | .hbm, ⟨9, _⟩ => ⟨S2x1000, .i32⟩
  | .hbm, ⟨10, _⟩ => ⟨S2x19200x8, .f32⟩
  | .hbm, ⟨11, _⟩ => ⟨S2x1000x1, .i32⟩
  | .hbm, ⟨12, _⟩ => ⟨S2x1000x1, .f32⟩
  | .hbm, ⟨13, _⟩ => ⟨S2x300x5, .f32⟩
  | .local _ .vmem, ⟨0, _⟩ => ⟨S1x19200x8, .f32⟩
  | .local _ .vmem, ⟨1, _⟩ => ⟨S1x19200x8, .f32⟩
  | .local _ .vmem, ⟨2, _⟩ => ⟨S1x1000x1, .i32⟩
  | .local _ .vmem, ⟨3, _⟩ => ⟨S1x1000x1, .i32⟩
  | .local _ .vmem, ⟨4, _⟩ => ⟨S1x1000x1, .f32⟩
  | .local _ .vmem, ⟨5, _⟩ => ⟨S1x1000x1, .f32⟩
  | .local _ .vmem, ⟨6, _⟩ => ⟨S1x300x5, .f32⟩
  | .local _ .vmem, ⟨7, _⟩ => ⟨S1x300x5, .f32⟩
  | .local _ .vmem, ⟨8, _⟩ => ⟨S1000x1000, .f32⟩
  | _, _ => ⟨S2x19200x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_53 : BitVec 32 := 0#32
  let c1000_i32 : BitVec 32 := 1000#32
  let v250 : BitVec 32 := Scalar.addi c0_i32_53 c1000_i32
  let c1_i32 : BitVec 32 := 1#32
  ⟨c0_i32_53, v250, c1_i32⟩
def k0_off1 (k0_t1 : Fin k0_t1_loop.trips) : Fin 2 → Nat :=
  let c0_i32_53 : BitVec 32 := 0#32
  let c1_i32 : BitVec 32 := 1#32
  let arg6 : BitVec 32 := Scf.iv c0_i32_53 c1_i32 k0_t1
  let v311 : Index := Scalar.indexCast arg6
  let c0_72 : Index := 0#32
  ![v311.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x300x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x19200x4 : Shape := ⟨3, ![2, 19200, 4]⟩
abbrev S2x3x80x80 : Shape := ⟨4, ![2, 3, 80, 80]⟩
abbrev S2x12x80x80 : Shape := ⟨4, ![2, 12, 80, 80]⟩
abbrev S2x3x1x80x80 : Shape := ⟨5, ![2, 3, 1, 80, 80]⟩
abbrev S2x80x80x3x1 : Shape := ⟨5, ![2, 80, 80, 3, 1]⟩
abbrev S2x19200x1 : Shape := ⟨3, ![2, 19200, 1]⟩
abbrev S2x19200 : Shape := ⟨2, ![2, 19200]⟩
abbrev S2x3x4x80x80 : Shape := ⟨5, ![2, 3, 4, 80, 80]⟩
abbrev S2x80x80x3x4 : Shape := ⟨5, ![2, 80, 80, 3, 4]⟩
abbrev S2x1000 : Shape := ⟨2, ![2, 1000]⟩
abbrev S_ : Shape := ⟨0, ![]⟩
abbrev S2x1000x1 : Shape := ⟨3, ![2, 1000, 1]⟩
abbrev S2x1000x4 : Shape := ⟨3, ![2, 1000, 4]⟩
abbrev S2x1000x2 : Shape := ⟨3, ![2, 1000, 2]⟩
abbrev S2x1000x1x2 : Shape := ⟨4, ![2, 1000, 1, 2]⟩
abbrev S2x1x1000x2 : Shape := ⟨4, ![2, 1, 1000, 2]⟩
abbrev S2x1000x1000x2 : Shape := ⟨4, ![2, 1000, 1000, 2]⟩
abbrev S2x1000x1000x1 : Shape := ⟨4, ![2, 1000, 1000, 1]⟩
abbrev S2x1000x1000 : Shape := ⟨3, ![2, 1000, 1000]⟩
abbrev S2x1x1000 : Shape := ⟨3, ![2, 1, 1000]⟩
abbrev S1000 : Shape := ⟨1, ![1000]⟩
abbrev S2x1 : Shape := ⟨2, ![2, 1]⟩
abbrev S2 : Shape := ⟨1, ![2]⟩
abbrev S1x1000 : Shape := ⟨2, ![1, 1000]⟩
abbrev S2x300 : Shape := ⟨2, ![2, 300]⟩
abbrev S2x300x1 : Shape := ⟨3, ![2, 300, 1]⟩
abbrev S2x300x4 : Shape := ⟨3, ![2, 300, 4]⟩
abbrev S2x300x5 : Shape := ⟨3, ![2, 300, 5]⟩

abbrev nBuf : Space → Nat
  | .hbm => 270
  | .vmem => 0
  | .smem => 0
  | _ => 0

abbrev hbmTy0_0 (i : Nat) : BufTy := match i % 128 with
  | 0 => ⟨S2x19200x4, .f32⟩
  | 1 => ⟨S2x3x80x80, .f32⟩
  | 2 => ⟨S2x12x80x80, .f32⟩
  | 3 => ⟨S2x3x1x80x80, .f32⟩
  | 4 => ⟨S2x80x80x3x1, .f32⟩
  | 5 => ⟨S2x19200x1, .f32⟩
  | 6 => ⟨S2x19200, .f32⟩
  | 7 => ⟨S2x3x4x80x80, .f32⟩
  | 8 => ⟨S2x80x80x3x4, .f32⟩
  | 9 => ⟨S2x19200x4, .f32⟩
  | 10 => ⟨S2x1000, .f32⟩
  | 11 => ⟨S2x1000, .i32⟩
  | 12 => ⟨S2x1000, .f32⟩
  | 13 => ⟨S2x1000, .f32⟩
  | 14 => ⟨S_, .f32⟩
  | 15 => ⟨S2x1000, .f32⟩
  | 16 => ⟨S2x1000, .f32⟩
  | 17 => ⟨S_, .f32⟩
  | 18 => ⟨S2x1000, .f32⟩
  | 19 => ⟨S2x1000, .f32⟩
  | 20 => ⟨S2x1000x1, .i32⟩
  | 21 => ⟨S_, .i32⟩
  | 22 => ⟨S2x1000x1, .i32⟩
  | 23 => ⟨S2x1000x1, .i1⟩
  | 24 => ⟨S_, .i32⟩
  | 25 => ⟨S2x1000x1, .i32⟩
  | 26 => ⟨S2x1000x1, .i32⟩
  | 27 => ⟨S2x1000x1, .i32⟩
  | 28 => ⟨S2x1000x4, .f32⟩
  | 29 => ⟨S2x1000x1, .i32⟩
  | 30 => ⟨S_, .i32⟩
  | 31 => ⟨S2x1000x1, .i32⟩
  | 32 => ⟨S2x1000x1, .i1⟩
  | 33 => ⟨S_, .i32⟩
  | 34 => ⟨S2x1000x1, .i32⟩
  | 35 => ⟨S2x1000x1, .i32⟩
  | 36 => ⟨S2x1000x1, .i32⟩
  | 37 => ⟨S2x1000x4, .f32⟩
  | 38 => ⟨S2x1000x1, .f32⟩
  | 39 => ⟨S2x1000, .f32⟩
  | 40 => ⟨S2x1000x1, .f32⟩
  | 41 => ⟨S2x1000, .f32⟩
  | 42 => ⟨S2x1000, .f32⟩
  | 43 => ⟨S2x1000x1, .f32⟩
  | 44 => ⟨S2x1000, .f32⟩
  | 45 => ⟨S_, .f32⟩
  | 46 => ⟨S2x1000, .f32⟩
  | 47 => ⟨S2x1000, .f32⟩
  | 48 => ⟨S2x1000, .f32⟩
  | 49 => ⟨S2x1000x1, .f32⟩
  | 50 => ⟨S2x1000, .f32⟩
  | 51 => ⟨S2x1000x1, .f32⟩
  | 52 => ⟨S2x1000, .f32⟩
  | 53 => ⟨S_, .f32⟩
  | 54 => ⟨S2x1000, .f32⟩
  | 55 => ⟨S2x1000, .f32⟩
  | 56 => ⟨S2x1000, .f32⟩
  | 57 => ⟨S2x1000, .f32⟩
  | 58 => ⟨S2x1000, .f32⟩
  | 59 => ⟨S2x1000, .f32⟩
  | 60 => ⟨S_, .f32⟩
  | 61 => ⟨S2x1000, .f32⟩
  | 62 => ⟨S2x1000, .f32⟩
  | 63 => ⟨S2x1000, .f32⟩
  | 64 => ⟨S_, .f32⟩
  | 65 => ⟨S2x1000, .f32⟩
  | 66 => ⟨S2x1000, .f32⟩
  | 67 => ⟨S2x1000, .f32⟩
  | 68 => ⟨S2x1000x1, .f32⟩
  | 69 => ⟨S2x1000, .f32⟩
  | 70 => ⟨S2x1000x1, .f32⟩
  | 71 => ⟨S2x1000, .f32⟩
  | 72 => ⟨S2x1000, .f32⟩
  | 73 => ⟨S2x1000x1, .f32⟩
  | 74 => ⟨S2x1000, .f32⟩
  | 75 => ⟨S_, .f32⟩
  | 76 => ⟨S2x1000, .f32⟩
  | 77 => ⟨S2x1000, .f32⟩
  | 78 => ⟨S2x1000, .f32⟩
  | 79 => ⟨S2x1000x1, .f32⟩
  | 80 => ⟨S2x1000, .f32⟩
  | 81 => ⟨S2x1000x1, .f32⟩
  | 82 => ⟨S2x1000, .f32⟩
  | 83 => ⟨S_, .f32⟩
  | 84 => ⟨S2x1000, .f32⟩
  | 85 => ⟨S2x1000, .f32⟩
  | 86 => ⟨S2x1000, .f32⟩
  | 87 => ⟨S2x1000, .f32⟩
  | 88 => ⟨S2x1000, .f32⟩
  | 89 => ⟨S2x1000, .f32⟩
  | 90 => ⟨S_, .f32⟩
  | 91 => ⟨S2x1000, .f32⟩
  | 92 => ⟨S2x1000, .f32⟩
  | 93 => ⟨S2x1000, .f32⟩
  | 94 => ⟨S_, .f32⟩
  | 95 => ⟨S2x1000, .f32⟩
  | 96 => ⟨S2x1000, .f32⟩
  | 97 => ⟨S2x1000, .f32⟩
  | 98 => ⟨S2x1000x1, .f32⟩
  | 99 => ⟨S2x1000x1, .f32⟩
  | 100 => ⟨S2x1000x1, .f32⟩
  | 101 => ⟨S2x1000x1, .f32⟩
  | 102 => ⟨S2x1000x4, .f32⟩
  | 103 => ⟨S_, .f32⟩
  | 104 => ⟨S_, .f32⟩
  | 105 => ⟨S_, .f32⟩
  | 106 => ⟨S2x1000x4, .f32⟩
  | 107 => ⟨S2x1000x4, .f32⟩
  | 108 => ⟨S_, .f32⟩
  | 109 => ⟨S2x1000x4, .f32⟩
  | 110 => ⟨S2x1000x4, .f32⟩
  | 111 => ⟨S2x1000x2, .f32⟩
  | 112 => ⟨S2x1000x2, .f32⟩
  | 113 => ⟨S2x1000x2, .i1⟩
  | 114 => ⟨S_, .i1⟩
  | 115 => ⟨S2x1000, .i1⟩
  | 116 => ⟨S_, .f32⟩
  | 117 => ⟨S_, .f32⟩
  | 118 => ⟨S2x1000, .f32⟩
  | 119 => ⟨S2x1000, .f32⟩
  | 120 => ⟨S2x1000, .f32⟩
  | 121 => ⟨S2x1000, .i32⟩
  | 122 => ⟨S2x1000, .f32⟩
  | 123 => ⟨S2x1000, .i32⟩
  | 124 => ⟨S2x1000x1, .i32⟩
  | 125 => ⟨S_, .i32⟩
  | 126 => ⟨S2x1000x1, .i32⟩
  | 127 => ⟨S2x1000x1, .i1⟩
  | _ => ⟨S2x19200x4, .f32⟩

abbrev hbmTy0_1 (i : Nat) : BufTy := match i % 128 with
  | 0 => ⟨S_, .i32⟩
  | 1 => ⟨S2x1000x1, .i32⟩
  | 2 => ⟨S2x1000x1, .i32⟩
  | 3 => ⟨S2x1000x1, .i32⟩
  | 4 => ⟨S2x1000x4, .f32⟩
  | 5 => ⟨S_, .i32⟩
  | 6 => ⟨S2x1000, .i32⟩
  | 7 => ⟨S2x1000, .i1⟩
  | 8 => ⟨S_, .i32⟩
  | 9 => ⟨S2x1000, .i32⟩
  | 10 => ⟨S2x1000, .i32⟩
  | 11 => ⟨S2x1000, .i32⟩
  | 12 => ⟨S2x1000x1, .i32⟩
  | 13 => ⟨S2x1000, .f32⟩
  | 14 => ⟨S2x1000x2, .f32⟩
  | 15 => ⟨S2x1000x2, .f32⟩
  | 16 => ⟨S2x1000x2, .f32⟩
  | 17 => ⟨S_, .f32⟩
  | 18 => ⟨S2x1000x2, .f32⟩
  | 19 => ⟨S2x1000x2, .f32⟩
  | 20 => ⟨S2x1000x1, .f32⟩
  | 21 => ⟨S2x1000, .f32⟩
  | 22 => ⟨S2x1000x1, .f32⟩
  | 23 => ⟨S2x1000, .f32⟩
  | 24 => ⟨S2x1000, .f32⟩
  | 25 => ⟨S2x1000x1x2, .f32⟩
  | 26 => ⟨S2x1x1000x2, .f32⟩
  | 27 => ⟨S2x1000x1000x2, .f32⟩
  | 28 => ⟨S2x1000x1000x2, .f32⟩
  | 29 => ⟨S2x1000x1000x2, .f32⟩
  | 30 => ⟨S2x1000x1x2, .f32⟩
  | 31 => ⟨S2x1x1000x2, .f32⟩
  | 32 => ⟨S2x1000x1000x2, .f32⟩
  | 33 => ⟨S2x1000x1000x2, .f32⟩
  | 34 => ⟨S2x1000x1000x2, .f32⟩
  | 35 => ⟨S2x1000x1000x2, .f32⟩
  | 36 => ⟨S_, .f32⟩
  | 37 => ⟨S2x1000x1000x2, .f32⟩
  | 38 => ⟨S2x1000x1000x2, .f32⟩
  | 39 => ⟨S2x1000x1000x1, .f32⟩
  | 40 => ⟨S2x1000x1000, .f32⟩
  | 41 => ⟨S2x1000x1000x1, .f32⟩
  | 42 => ⟨S2x1000x1000, .f32⟩
  | 43 => ⟨S2x1000x1000, .f32⟩
  | 44 => ⟨S2x1000x1, .f32⟩
  | 45 => ⟨S2x1x1000, .f32⟩
  | 46 => ⟨S2x1000x1000, .f32⟩
  | 47 => ⟨S2x1000x1000, .f32⟩
  | 48 => ⟨S2x1000x1000, .f32⟩
  | 49 => ⟨S2x1000x1000, .f32⟩
  | 50 => ⟨S_, .f32⟩
  | 51 => ⟨S2x1000x1000, .f32⟩
  | 52 => ⟨S2x1000x1000, .f32⟩
  | 53 => ⟨S2x1000x1000, .f32⟩
  | 54 => ⟨S1000, .i32⟩
  | 55 => ⟨S_, .i1⟩
  | 56 => ⟨S2x1000, .i1⟩
  | 57 => ⟨S_, .i32⟩
  | 58 => ⟨S_, .i32⟩
  | 59 => ⟨S2x1000x1000, .f32⟩
  | 60 => ⟨S1000, .i32⟩
  | 61 => ⟨S_, .i32⟩
  | 62 => ⟨S_, .i32⟩
  | 63 => ⟨S2x1000, .i1⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S2x1, .i1⟩
  | 83 => ⟨S2, .i1⟩
  | 84 => ⟨S2x1, .i1⟩
  | 85 => ⟨S2x1, .i1⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S2x1x1000, .f32⟩
  | 109 => ⟨S2x1000, .f32⟩
  | 110 => ⟨S_, .f32⟩
  | 111 => ⟨S2x1000, .f32⟩
  | 112 => ⟨S2x1000, .i1⟩
  | 113 => ⟨S2x1000, .i1⟩
  | 114 => ⟨S2x1000, .i1⟩
  | 115 => ⟨S_, .i32⟩
  | 116 => ⟨S1000, .i32⟩
  | 117 => ⟨S1000, .i1⟩
  | 118 => ⟨S1x1000, .i1⟩
  | 119 => ⟨S2x1000, .i1⟩
  | 120 => ⟨S2x1000, .i1⟩
  | 121 => ⟨S2x1000, .i1⟩
  | 122 => ⟨S_, .i32⟩
  | 123 => ⟨S_, .i32⟩
  | 124 => ⟨S2x1000, .i1⟩
  | 125 => ⟨S_, .f32⟩
  | 126 => ⟨S_, .f32⟩
  | 127 => ⟨S2x1000, .f32⟩
  | _ => ⟨S2x19200x4, .f32⟩

abbrev hbmTy0_2 (i : Nat) : BufTy := match i % 128 with
  | 0 => ⟨S2x1000, .f32⟩
  | 1 => ⟨S2x300, .f32⟩
  | 2 => ⟨S2x300, .i32⟩
  | 3 => ⟨S2x300x1, .i32⟩
  | 4 => ⟨S_, .i32⟩
  | 5 => ⟨S2x300x1, .i32⟩
  | 6 => ⟨S2x300x1, .i1⟩
  | 7 => ⟨S_, .i32⟩
  | 8 => ⟨S2x300x1, .i32⟩
  | 9 => ⟨S2x300x1, .i32⟩
  | 10 => ⟨S2x300x1, .i32⟩
  | 11 => ⟨S2x300x4, .f32⟩
  | 12 => ⟨S2x300x1, .f32⟩
  | 13 => ⟨S2x300x5, .f32⟩
  | _ => ⟨S2x19200x4, .f32⟩

abbrev hbmTy (i : Nat) : BufTy := match i / 128 with
  | 0 => hbmTy0_0 i
  | 1 => hbmTy0_1 i
  | 2 => hbmTy0_2 i
  | _ => ⟨S2x19200x4, .f32⟩

abbrev bufTy : (tb : Table) → Fin (tcTables nBuf tb) → BufTy
  | .hbm, ⟨i, _⟩ => hbmTy i
  | _, _ => ⟨S2x19200x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_values : Ref sig .tc := ⟨.hbm, 10, rfl⟩
abbrev main_indices : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_9 : Ref sig .tc := ⟨.hbm, 103, rfl⟩
abbrev main_cst_10 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c : Ref sig .tc := ⟨.hbm, 114, rfl⟩
abbrev main_v78 : Ref sig .tc := ⟨.hbm, 115, rfl⟩
abbrev main_cst_11 : Ref sig .tc := ⟨.hbm, 116, rfl⟩
abbrev main_call3_v0 : Ref sig .tc := ⟨.hbm, 117, rfl⟩
abbrev main_call3_v1 : Ref sig .tc := ⟨.hbm, 118, rfl⟩
abbrev main_v79 : Ref sig .tc := ⟨.hbm, 119, rfl⟩
abbrev main_v80 : Ref sig .tc := ⟨.hbm, 120, rfl⟩
abbrev main_call4_v0 : Ref sig .tc := ⟨.hbm, 121, rfl⟩
abbrev main_call4_v1_0 : Ref sig .tc := ⟨.hbm, 122, rfl⟩
abbrev main_v81 : Ref sig .tc := ⟨.hbm, 123, rfl⟩
abbrev main_v82 : Ref sig .tc := ⟨.hbm, 124, rfl⟩
abbrev main_call5_c : Ref sig .tc := ⟨.hbm, 125, rfl⟩
abbrev main_call5_v0 : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v83 : Ref sig .tc := ⟨.hbm, 132, rfl⟩
abbrev main_call6_c : Ref sig .tc := ⟨.hbm, 133, rfl⟩
abbrev main_call6_v0 : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_12 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_13 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_14 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_15 : Ref sig .tc := ⟨.hbm, 183, rfl⟩
abbrev main_v123 : Ref sig .tc := ⟨.hbm, 184, rfl⟩
abbrev main_c_16 : Ref sig .tc := ⟨.hbm, 185, rfl⟩
abbrev main_c_17 : Ref sig .tc := ⟨.hbm, 186, rfl⟩
abbrev main_v124_0 : Ref sig .tc := ⟨.hbm, 187, rfl⟩
abbrev main_v124_1 : Ref sig .tc := ⟨.hbm, 188, rfl⟩
abbrev main_v124_2 : Ref sig .tc := ⟨.hbm, 189, rfl⟩
abbrev main_v124_3 : Ref sig .tc := ⟨.hbm, 190, rfl⟩
abbrev main_v124_4 : Ref sig .tc := ⟨.hbm, 191, rfl⟩
abbrev main_while0c_c_25 : Ref sig .tc := ⟨.hbm, 192, rfl⟩
abbrev main_while0c_v131 : Ref sig .tc := ⟨.hbm, 193, rfl⟩
abbrev main_while0b_c_25 : Ref sig .tc := ⟨.hbm, 194, rfl⟩
abbrev main_while0b_v131 : Ref sig .tc := ⟨.hbm, 195, rfl⟩
abbrev main_while0b_v132 : Ref sig .tc := ⟨.hbm, 196, rfl⟩
abbrev main_while0b_c_26 : Ref sig .tc := ⟨.hbm, 197, rfl⟩
abbrev main_while0b_c_27 : Ref sig .tc := ⟨.hbm, 198, rfl⟩
abbrev main_while0b_v133 : Ref sig .tc := ⟨.hbm, 199, rfl⟩
abbrev main_while0b_c_28 : Ref sig .tc := ⟨.hbm, 200, rfl⟩
abbrev main_while0b_c_29 : Ref sig .tc := ⟨.hbm, 201, rfl⟩
abbrev main_while0b_v134 : Ref sig .tc := ⟨.hbm, 202, rfl⟩
abbrev main_while0b_c_30 : Ref sig .tc := ⟨.hbm, 203, rfl⟩
abbrev main_while0b_v135 : Ref sig .tc := ⟨.hbm, 204, rfl⟩
abbrev main_while0b_c_31 : Ref sig .tc := ⟨.hbm, 205, rfl⟩
abbrev main_while0b_v136 : Ref sig .tc := ⟨.hbm, 206, rfl⟩
abbrev main_while0b_c_32 : Ref sig .tc := ⟨.hbm, 207, rfl⟩
abbrev main_while0b_v137 : Ref sig .tc := ⟨.hbm, 208, rfl⟩
abbrev main_while0b_v138 : Ref sig .tc := ⟨.hbm, 209, rfl⟩
abbrev main_while0b_v139 : Ref sig .tc := ⟨.hbm, 210, rfl⟩
abbrev main_while0b_v140 : Ref sig .tc := ⟨.hbm, 211, rfl⟩
abbrev main_while0b_v141 : Ref sig .tc := ⟨.hbm, 212, rfl⟩
abbrev main_while0b_v142 : Ref sig .tc := ⟨.hbm, 213, rfl⟩
abbrev main_while0b_v143 : Ref sig .tc := ⟨.hbm, 214, rfl⟩
abbrev main_while0b_c_33 : Ref sig .tc := ⟨.hbm, 215, rfl⟩
abbrev main_while0b_c_34 : Ref sig .tc := ⟨.hbm, 216, rfl⟩
abbrev main_while0b_v144 : Ref sig .tc := ⟨.hbm, 217, rfl⟩
abbrev main_while0b_c_35 : Ref sig .tc := ⟨.hbm, 218, rfl⟩
abbrev main_while0b_c_36 : Ref sig .tc := ⟨.hbm, 219, rfl⟩
abbrev main_while0b_v145 : Ref sig .tc := ⟨.hbm, 220, rfl⟩
abbrev main_while0b_c_37 : Ref sig .tc := ⟨.hbm, 221, rfl⟩
abbrev main_while0b_v146 : Ref sig .tc := ⟨.hbm, 222, rfl⟩
abbrev main_while0b_c_38 : Ref sig .tc := ⟨.hbm, 223, rfl⟩
abbrev main_while0b_v147 : Ref sig .tc := ⟨.hbm, 224, rfl⟩
abbrev main_while0b_c_39 : Ref sig .tc := ⟨.hbm, 225, rfl⟩
abbrev main_while0b_v148 : Ref sig .tc := ⟨.hbm, 226, rfl⟩
abbrev main_while0b_v149 : Ref sig .tc := ⟨.hbm, 227, rfl⟩
abbrev main_while0b_c_40 : Ref sig .tc := ⟨.hbm, 228, rfl⟩
abbrev main_while0b_c_41 : Ref sig .tc := ⟨.hbm, 229, rfl⟩
abbrev main_while0b_v150 : Ref sig .tc := ⟨.hbm, 230, rfl⟩
abbrev main_while0b_c_42 : Ref sig .tc := ⟨.hbm, 231, rfl⟩
abbrev main_while0b_c_43 : Ref sig .tc := ⟨.hbm, 232, rfl⟩
abbrev main_while0b_v151 : Ref sig .tc := ⟨.hbm, 233, rfl⟩
abbrev main_while0b_c_44 : Ref sig .tc := ⟨.hbm, 234, rfl⟩
abbrev main_while0b_v152 : Ref sig .tc := ⟨.hbm, 235, rfl⟩
abbrev main_while0b_v153 : Ref sig .tc := ⟨.hbm, 236, rfl⟩
abbrev main_while0b_v154 : Ref sig .tc := ⟨.hbm, 237, rfl⟩
abbrev main_while0b_cst_45 : Ref sig .tc := ⟨.hbm, 238, rfl⟩
abbrev main_while0b_v155 : Ref sig .tc := ⟨.hbm, 239, rfl⟩
abbrev main_while0b_v156 : Ref sig .tc := ⟨.hbm, 240, rfl⟩
abbrev main_while0b_v157 : Ref sig .tc := ⟨.hbm, 241, rfl⟩
abbrev main_while0b_v158 : Ref sig .tc := ⟨.hbm, 242, rfl⟩
abbrev main_while0b_v159 : Ref sig .tc := ⟨.hbm, 243, rfl⟩
abbrev main_while0b_v160 : Ref sig .tc := ⟨.hbm, 244, rfl⟩
abbrev main_while0b_v161 : Ref sig .tc := ⟨.hbm, 245, rfl⟩
abbrev main_while0b_v162 : Ref sig .tc := ⟨.hbm, 246, rfl⟩
abbrev main_while0b_v163 : Ref sig .tc := ⟨.hbm, 247, rfl⟩
abbrev main_while0b_v164 : Ref sig .tc := ⟨.hbm, 248, rfl⟩
abbrev main_while0b_v165 : Ref sig .tc := ⟨.hbm, 249, rfl⟩
abbrev main_while0b_c_46 : Ref sig .tc := ⟨.hbm, 250, rfl⟩
abbrev main_while0b_v166 : Ref sig .tc := ⟨.hbm, 251, rfl⟩
abbrev main_v125 : Ref sig .tc := ⟨.hbm, 252, rfl⟩
abbrev main_cst_18 : Ref sig .tc := ⟨.hbm, 253, rfl⟩
abbrev main_call7_v0 : Ref sig .tc := ⟨.hbm, 254, rfl⟩
abbrev main_call7_v1 : Ref sig .tc := ⟨.hbm, 255, rfl⟩
abbrev main_v126 : Ref sig .tc := ⟨.hbm, 256, rfl⟩
abbrev main_values_19 : Ref sig .tc := ⟨.hbm, 257, rfl⟩
abbrev main_indices_20 : Ref sig .tc := ⟨.hbm, 258, rfl⟩
abbrev main_v127 : Ref sig .tc := ⟨.hbm, 259, rfl⟩
abbrev main_call8_c : Ref sig .tc := ⟨.hbm, 260, rfl⟩
abbrev main_call8_v0 : Ref sig .tc := ⟨.hbm, 261, rfl⟩
abbrev main_call8_v1 : Ref sig .tc := ⟨.hbm, 262, rfl⟩
abbrev main_call8_c_0 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩

abbrev nD : Nat := 1
abbrev τ : Topo := Topo.v7x

variable {F : FTy → Type} [FloatOps F]

abbrev main_while0_count : Scf.Loop 32 := ⟨0#32, 1000#32, 1#32⟩
-- ==== Proof.ReferenceRun.lean ====
/- The reference program from its launch to its end: which buffers the stretches of host operations leave alone, and
   its frame — the three arguments are as they were and every semaphore counter is zero. -/
module

public import proofs.«01_k».proof.Proof.Gen.ReferenceIdeal.Run
public import Idealize.ShloMosaic.Lib.Quiescent
public import Idealize.ShloMosaic.PureOps.Ideal

@[expose] public section

set_option maxRecDepth 16384

noncomputable section

namespace Cert.ReferenceIdeal.Hand

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]

/-- What the operations after the loop write, stretch by stretch. -/
abbrev postW : List (List (Ref sig .tc)) :=
  [[main_v125, main_cst_18], [main_call7_v0, main_call7_v1, main_v126], [main_values_19, main_indices_20, main_v127],
   [main_call8_c, main_call8_v0, main_call8_v1, main_call8_c_0, main_call8_v2, main_call8_v3, main_call8_v4, main_v128],
   [main_v129, main_v130]]

/-- What the operations before the loop write, stretch by stretch. -/
abbrev preW : List (List (Ref sig .tc)) :=
  [hostOps0_W, hostOps0_1_W, hostOps0_2_W, hostOps0_3_W, hostOps0_4_W, hostOps0_5_W, hostOps0_6_W, hostOps0_7_W,
   hostOps0_8_W, hostOps0_9_W, hostOps0_10_W, hostOps0_11_W, hostOps0_12_W, hostOps0_13_W]

/-- A buffer no stretch writes is the same after all of them. -/
theorem afterL_keep {r : Ref sig .tc} {L : List (List (HloOp τ sig (Elt F)))} {W : List (List (Ref sig .tc))}
    (hw : List.Forall₂ (fun ops w => (ops : List (HloOp τ sig (Elt F))).Forall
      fun op => op.writes ⊆ (w.map (Proc.devRef (τ := τ) .tc)).toFinset) L W)
    (h : ∀ w ∈ W, r ∉ w) (V : Valuation τ sig (Elt F)) : afterL L V (Proc.devRef .tc r) = V (Proc.devRef .tc r) := by
  induction hw generalizing V with
  | nil => rfl
  | cons ha _ ih =>
    rw [afterL_cons, ih (fun w hw' => h w (List.mem_cons_of_mem _ hw'))]
    exact after_of_writes_sub _ V ha (h _ List.mem_cons_self)

/-- The stretches before the loop write what `preW` lists. -/
theorem pre_writes : List.Forall₂ (fun ops w => (ops : List (HloOp τ sig (Elt F))).Forall
    fun op => op.writes ⊆ (w.map (Proc.devRef (τ := τ) .tc)).toFinset) (preI (F := F)) preW :=
  .cons hostOps0_writes (.cons hostOps0_1_writes (.cons hostOps0_2_writes (.cons hostOps0_3_writes
    (.cons hostOps0_4_writes (.cons hostOps0_5_writes (.cons hostOps0_6_writes (.cons hostOps0_7_writes
    (.cons hostOps0_8_writes (.cons hostOps0_9_writes (.cons hostOps0_10_writes (.cons hostOps0_11_writes
    (.cons hostOps0_12_writes (.cons hostOps0_13_writes .nil)))))))))))))

/-- The stretches after the loop write what `postW` lists. -/
theorem post_writes : List.Forall₂ (fun ops w => (ops : List (HloOp τ sig (Elt F))).Forall
    fun op => op.writes ⊆ (w.map (Proc.devRef (τ := τ) .tc)).toFinset) (postI (F := F)) postW :=
  .cons (forall_writes_sub_of_map rfl) (.cons (forall_writes_sub_of_map rfl) (.cons (forall_writes_sub_of_map rfl)
    (.cons (forall_writes_sub_of_map rfl) (.cons (forall_writes_sub_of_map rfl) .nil))))

/-- A buffer neither the loop's condition nor its body writes is the same after any number of trips. -/
theorem atTrip_keep {r : Ref sig .tc} (hc : r ∉ condOps_W) (hb : r ∉ while0Ops0_W)
    (W₀ : Dev nD → Valuation τ sig (Elt F)) (c : Dev nD) : ∀ k,
    atTrip condOps bodyI W₀ k c (Proc.devRef .tc r) = W₀ c (Proc.devRef .tc r)
  | 0 => rfl
  | k + 1 => by
    rw [atTrip_succ, bodyI, afterL_cons, afterL_nil, after_of_writes_sub _ _ while0Ops0_writes hb,
      after_of_writes_sub _ _ condOps_writes hc, atTrip_keep hc hb W₀ c k]

/-- What a buffer that the loop leaves alone holds at the loop's end is what it held at its entry. -/
theorem loop_keep {r : Ref sig .tc} (hc : r ∉ condOps_W) (hb : r ∉ while0Ops0_W)
    (W₀ : Dev nD → Valuation τ sig (Elt F)) (c : Dev nD) (k : ℕ) :
    after condOps (atTrip condOps bodyI W₀ k c) (Proc.devRef .tc r) = W₀ c (Proc.devRef .tc r) := by
  rw [after_of_writes_sub _ _ condOps_writes hc, atTrip_keep hc hb]

/-- A buffer the whole program never writes holds at the end what it held at launch. -/
theorem final_keep {r : Ref sig .tc} (h0 : ∀ w ∈ preW, r ∉ w) (hc : r ∉ condOps_W) (hb : r ∉ while0Ops0_W)
    (h1 : ∀ w ∈ postW, r ∉ w) (m : (ℓ : Loc nD τ sig) → Buf (Elt F) ℓ) (c : Dev nD) :
    finalContents condOps preI bodyI postI 1000 m c (Proc.devRef .tc r) = m ((c.tc : Thread nD τ).loc r) := by
  unfold finalContents
  rw [afterL_keep post_writes h1, loop_keep hc hb, entryContents, afterL_keep pre_writes h0]

/-- The first argument ends as it was. -/
theorem final_arg0 (m : (ℓ : Loc nD τ sig) → Buf (Elt F) ℓ) (c : Dev nD) :
    finalContents condOps preI bodyI postI 1000 m c (Proc.devRef .tc main_arg0) = m ((c.tc : Thread nD τ).loc main_arg0) :=
  final_keep (by decide +kernel) (by decide +kernel) (by decide +kernel) (by decide +kernel) m c

/-- The second argument ends as it was. -/
theorem final_arg1 (m : (ℓ : Loc nD τ sig) → Buf (Elt F) ℓ) (c : Dev nD) :
    finalContents condOps preI bodyI postI 1000 m c (Proc.devRef .tc main_arg1) = m ((c.tc : Thread nD τ).loc main_arg1) :=
  final_keep (by decide +kernel) (by decide +kernel) (by decide +kernel) (by decide +kernel) m c

/-- The third argument ends as it was. -/
theorem final_arg2 (m : (ℓ : Loc nD τ sig) → Buf (Elt F) ℓ) (c : Dev nD) :
    finalContents condOps preI bodyI postI 1000 m c (Proc.devRef .tc main_arg2) = m ((c.tc : Thread nD τ).loc main_arg2) :=
  final_keep (by decide +kernel) (by decide +kernel) (by decide +kernel) (by decide +kernel) m c

/-- Every weakly fair execution of the reference ends with its result at the fold's value and its arguments as they
    were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v130) = finalContents condOps preI bodyI postI 1000 m c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ hr c => ⟨hr c main_v130 rfl, (hr c main_arg0 rfl).trans (final_arg0 m c),
    (hr c main_arg1 rfl).trans (final_arg1 m c), (hr c main_arg2 rfl).trans (final_arg2 m c)⟩) (run_fold m ρ)

/-- The reference's frame: every weakly fair execution ends with the arguments as they were and every counter zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r hr => ⟨fun c => (hr c).2, sem_eq_zero_of_no_sems rfl r.2⟩) (run_value m ρ)

end Cert.ReferenceIdeal.Hand

end
-- ==== Proof.Order.lean ====
/- Orders and counts, apart from any program: a stable sort by a descending key whose ties and order agree with classes
   puts at place `r` the element of class rank `r`; a class rank is a sum of zeros and ones, as the kernel counts it; a
   product with a row of zeros and one one picks an element. -/
module

public import Idealize.ShloMosaic.Lib.SortFacts
public import Idealize.ShloMosaic.PureOps.Ideal

@[expose] public section

noncomputable section

namespace Rpn

open Idealize.ShloMosaic

/-! ## The stable sort by a descending key -/

section Sorts
variable {n : ℕ}

/-- `a` comes before `b`: a greater key, or the same key at an earlier position. -/
def Before (key : Fin n → EReal) (a b : Fin n) : Prop := key b < key a ∨ (key a = key b ∧ a < b)

/-- Inserting keeps a list sorted by descending key, then by position. -/
theorem pairwise_insert (key : Fin n → EReal) (a : Fin n) (l : List (Fin n)) (ha : ∀ b ∈ l, a < b)
    (hl : l.Pairwise (Before key)) :
    (insertBefore (fun x y => decide (key y < key x)) a l).Pairwise (Before key) := by
  induction l with
  | nil => exact List.pairwise_singleton _ _
  | cons b l ih =>
    rw [List.pairwise_cons] at hl
    unfold insertBefore
    split
    · rename_i h
      have h : key a < key b := by simpa using h
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl h
      · exact hl.1 c hc'
    · rename_i h
      have h : key b ≤ key a := by simpa using h
      refine List.pairwise_cons.mpr ⟨fun c hc => ?_, List.pairwise_cons.mpr hl⟩
      have hac : a < c := ha c hc
      have hcb : key c ≤ key b := by
        rcases List.mem_cons.mp hc with rfl | hc'
        · exact le_rfl
        · rcases hl.1 c hc' with h' | ⟨h', _⟩
          · exact h'.le
          · exact h'.ge
      rcases lt_or_eq_of_le (hcb.trans h) with h' | h'
      · exact Or.inl h'
      · exact Or.inr ⟨h'.symm, hac⟩

/-- The sorted list is sorted by descending key, then by position. -/
theorem pairwise_sort (key : Fin n → EReal) (l : List (Fin n)) (hl : l.Pairwise (· < ·)) :
    (stableSort (fun x y => decide (key y < key x)) l).Pairwise (Before key) := by
  induction l with
  | nil => exact List.Pairwise.nil
  | cons a l ih =>
    obtain ⟨ha, hl'⟩ := List.pairwise_cons.mp hl
    unfold stableSort
    exact pairwise_insert key a _ (fun b hb => ha b ((perm_stableSort _ l).mem_iff.mp hb)) (ih hl')

/-- The place order of the sorted positions by a descending key. -/
def order (key : Fin n → EReal) : Fin n → Fin n := sortedFrom (fun x y => decide (key y < key x))

/-- Of two places the earlier holds what comes before. -/
theorem order_before (key : Fin n → EReal) (i j : Fin n) (hij : i < j) : Before key (order key i) (order key j) := by
  have hp : ∀ a b : Fin (sortPositions n (fun x y => decide (key y < key x))).length, a < b →
      Before key ((sortPositions n (fun x y => decide (key y < key x))).get a)
        ((sortPositions n (fun x y => decide (key y < key x))).get b) :=
    List.pairwise_iff_get.mp (pairwise_sort key (List.finRange n) (List.pairwise_lt_finRange n))
  exact hp _ _ (by simp only [Fin.lt_def, Fin.val_cast]; exact hij)

/-- The sorted keys descend. -/
theorem order_antitone (key : Fin n → EReal) (i j : Fin n) (hij : i ≤ j) : key (order key j) ≤ key (order key i) := by
  rcases lt_or_eq_of_le hij with h | rfl
  · rcases order_before key i j h with h' | ⟨h', _⟩
    · exact h'.le
    · exact h'.ge
  · exact le_rfl

/-- The order hits no element twice. -/
theorem order_injective (key : Fin n → EReal) : Function.Injective (order key) := sortedFrom_injective _

/-- The order hits every element. -/
theorem order_surjective (key : Fin n → EReal) : Function.Surjective (order key) := sortedFrom_surjective _

/-- `a` precedes `b` by class and then position. -/
def Prec (c : Fin n → ℕ) (a b : Fin n) : Prop := c a < c b ∨ (c a = c b ∧ a < b)

instance (c : Fin n → ℕ) (a b : Fin n) : Decidable (Prec c a b) := by unfold Prec; infer_instance

/-- How many precede `i`. -/
def rank (c : Fin n → ℕ) (i : Fin n) : ℕ := (Finset.univ.filter fun j => Prec c j i).card

/-- If a lower class has greater keys and within a class the keys descend, then the element that the sort puts at place
    `r` is preceded by exactly `r`. -/
theorem rank_order (key : Fin n → EReal) (c : Fin n → ℕ) (hlt : ∀ i j, c j < c i → key i < key j)
    (heq : ∀ i j, c j = c i → j < i → key i ≤ key j) (r : Fin n) : rank c (order key r) = r.val := by
  have hL : ∀ a b, Before key a b → Prec c a b := by
    intro a b h
    rcases lt_trichotomy (c a) (c b) with hc | hc | hc
    · exact Or.inl hc
    · rcases lt_trichotomy a b with hab | rfl | hab
      · exact Or.inr ⟨hc, hab⟩
      · rcases h with h | ⟨_, h⟩
        · exact absurd h (lt_irrefl _)
        · exact absurd h (lt_irrefl _)
      · have := heq a b hc.symm hab
        rcases h with h | ⟨_, h⟩
        · exact absurd h (not_lt.mpr this)
        · exact absurd h (not_lt.mpr hab.le)
    · have := hlt a b hc
      rcases h with h | ⟨h, _⟩
      · exact absurd h (not_lt.mpr this.le)
      · exact absurd h this.ne
  have hanti : ∀ a b, Prec c a b → ¬ Prec c b a := by
    rintro a b (h | ⟨h, h'⟩) (k | ⟨k, k'⟩)
    · omega
    · omega
    · omega
    · exact absurd h' (not_lt.mpr k'.le)
  have hset : (Finset.univ.filter fun j => Prec c j (order key r)) = (Finset.Iio r).image (order key) := by
    ext j
    obtain ⟨i, rfl⟩ := order_surjective key j
    simp only [Finset.mem_filter, Finset.mem_univ, true_and, Finset.mem_image, Finset.mem_Iio]
    constructor
    · intro h
      refine ⟨i, ?_, rfl⟩
      rcases lt_trichotomy i r with hi | rfl | hi
      · exact hi
      · exact absurd h (hanti _ _ h)
      · exact absurd (hL _ _ (order_before key r i hi)) (hanti _ _ h)
    · rintro ⟨i', hi', he⟩
      rw [← he]
      exact hL _ _ (order_before key i' r hi')
  rw [rank, hset, Finset.card_image_of_injective _ (order_injective key), Fin.card_Iio]

/-- … and is the only such element. -/
theorem rank_eq_iff (key : Fin n → EReal) (c : Fin n → ℕ) (hlt : ∀ i j, c j < c i → key i < key j)
    (heq : ∀ i j, c j = c i → j < i → key i ≤ key j) (i r : Fin n) : rank c i = r.val ↔ i = order key r := by
  constructor
  · intro h
    obtain ⟨r', rfl⟩ := order_surjective key i
    rw [rank_order key c hlt heq] at h
    rw [Fin.ext h]
  · rintro rfl
    exact rank_order key c hlt heq r

/-- A rank is less than the number of elements. -/
theorem rank_lt (c : Fin n → ℕ) (i : Fin n) : rank c i < n := by
  have h : (Finset.univ.filter fun j => Prec c j i) ⊂ Finset.univ := by
    refine Finset.filter_ssubset.mpr ⟨i, Finset.mem_univ _, ?_⟩
    rintro (h | ⟨_, h⟩) <;> exact absurd h (lt_irrefl _)
  have := Finset.card_lt_card h
  simpa [rank] using this

end Sorts

/-! ## Zeros and ones -/

/-- One where `P` holds, else zero. -/
def ind (P : Prop) [Decidable P] : EReal := if P then 1 else 0

/-- The indicator of a true statement is one. -/
theorem ind_true {P : Prop} [Decidable P] (h : P) : ind P = 1 := if_pos h
/-- The indicator of a false statement is zero. -/
theorem ind_false {P : Prop} [Decidable P] (h : ¬P) : ind P = 0 := if_neg h

/-- One less one is zero. -/
theorem one_sub_one : (1 : EReal) - 1 = 0 := by
  rw [← EReal.coe_one, ← EReal.coe_sub, sub_self, EReal.coe_zero]

/-- One less an indicator is the indicator of the negation. -/
theorem one_sub_ind (P : Prop) [Decidable P] : 1 - ind P = ind (¬P) := by
  by_cases h : P
  · rw [ind_true h, ind_false (not_not.mpr h), one_sub_one]
  · rw [ind_false h, ind_true h, sub_zero]

/-- The product of indicators is the indicator of the conjunction. -/
theorem ind_mul_ind (P Q : Prop) [Decidable P] [Decidable Q] : ind P * ind Q = ind (P ∧ Q) := by
  by_cases h : P
  · rw [ind_true h, one_mul]; unfold ind; simp [h]
  · rw [ind_false h, zero_mul, ind_false (fun h' => h h'.1)]

/-- Equivalent statements have the same indicator. -/
theorem ind_congr {P Q : Prop} [Decidable P] [Decidable Q] (h : P ↔ Q) : ind P = ind Q := by
  unfold ind; simp only [h]

/-- A row with a one at `a` picks the element at `a`. -/
theorem sum_pick {ι : Type} [Fintype ι] [DecidableEq ι] (P : ι → Prop) [DecidablePred P] (a : ι) (hP : ∀ i, P i ↔ i = a)
    (f : ι → EReal) : ∑ i, ind (P i) * f i = f a := by
  rw [Finset.sum_eq_single a (fun b _ hb => by rw [ind_false (fun h => hb ((hP b).mp h)), zero_mul])
    (fun h => absurd (Finset.mem_univ a) h), ind_true ((hP a).mpr rfl), one_mul]

/-- … on either side. -/
theorem sum_pick' {ι : Type} [Fintype ι] [DecidableEq ι] (P : ι → Prop) [DecidablePred P] (a : ι) (hP : ∀ i, P i ↔ i = a)
    (f : ι → EReal) : ∑ i, f i * ind (P i) = f a := by
  simp only [mul_comm (f _)]; exact sum_pick P a hP f

/-- A row of zeros gives zero. -/
theorem sum_none {ι : Type} [Fintype ι] (P : ι → Prop) [DecidablePred P] (hP : ∀ i, ¬P i)
    (f : ι → EReal) : ∑ i, ind (P i) * f i = 0 :=
  Finset.sum_eq_zero fun i _ => by rw [ind_false (hP i), zero_mul]

/-- A natural number as an extended real. -/
def nat (k : ℕ) : EReal := ((k : ℝ) : EReal)

/-- Zero as a count. -/
theorem nat_zero : nat 0 = 0 := by simp [nat]
/-- One as a count. -/
theorem nat_one : nat 1 = 1 := by simp [nat]
/-- The sum of two counts. -/
theorem nat_add (a b : ℕ) : nat (a + b) = nat a + nat b := by
  simp only [nat, Nat.cast_add, EReal.coe_add]
/-- A successor less one. -/
theorem nat_succ_sub (a : ℕ) : nat (a + 1) - 1 = nat a := by
  rw [nat, nat, ← EReal.coe_one, ← EReal.coe_sub, Nat.cast_add, Nat.cast_one, add_sub_cancel_right]

/-- A sum of zeros and ones counts. -/
theorem sum_ind {ι : Type} (s : Finset ι) (P : ι → Prop) [DecidablePred P] : ∑ i ∈ s, ind (P i) = nat (s.filter P).card := by
  classical
  induction s using Finset.induction_on with
  | empty => simp [nat_zero]
  | insert a s ha ih =>
    rw [Finset.sum_insert ha, ih, Finset.filter_insert]
    by_cases h : P a
    · rw [if_pos h, Finset.card_insert_of_notMem (fun h' => ha (Finset.mem_filter.mp h').1), ind_true h, add_comm, nat_add,
        nat_one]
    · rw [if_neg h, ind_false h, zero_add]

variable {n : ℕ}

/-- How many `j ≤ i` satisfy `P`, for an `i` that does: one more than how many `j < i` do. -/
theorem card_le_of (P : Fin n → Prop) [DecidablePred P] (i : Fin n) (h : P i) :
    (Finset.univ.filter fun j => j ≤ i ∧ P j).card = (Finset.univ.filter fun j => j < i ∧ P j).card + 1 := by
  have : (Finset.univ.filter fun j => j ≤ i ∧ P j) = insert i (Finset.univ.filter fun j => j < i ∧ P j) := by
    ext j
    simp only [Finset.mem_filter, Finset.mem_univ, true_and, Finset.mem_insert]
    constructor
    · rintro ⟨h1, h2⟩
      rcases lt_or_eq_of_le h1 with h3 | h3
      · exact Or.inr ⟨h3, h2⟩
      · exact Or.inl h3
    · rintro (rfl | ⟨h1, h2⟩)
      · exact ⟨le_rfl, h⟩
      · exact ⟨h1.le, h2⟩
  rw [this, Finset.card_insert_of_notMem (by simp)]

/-- The kernel's running count of `P` up to `i`. -/
def upTo (P : Fin n → Prop) [DecidablePred P] (i : Fin n) : EReal := ∑ j, ind (j ≤ i) * ind (P j)

/-- A count up to a counted place, less one, counts the places before it. -/
theorem upTo_sub_one (P : Fin n → Prop) [DecidablePred P] (i : Fin n) (h : P i) :
    upTo P i - 1 = nat (Finset.univ.filter fun j => j < i ∧ P j).card := by
  unfold upTo
  simp only [ind_mul_ind]
  rw [sum_ind, card_le_of P i h, nat_succ_sub]

/-- The same with a number added. -/
theorem upTo_add_sub_one (P : Fin n → Prop) [DecidablePred P] (i : Fin n) (h : P i) (a : ℕ) :
    nat a + upTo P i - 1 = nat (a + (Finset.univ.filter fun j => j < i ∧ P j).card) := by
  unfold upTo
  simp only [ind_mul_ind]
  rw [sum_ind, card_le_of P i h, ← nat_add, ← add_assoc, nat_succ_sub]

/-- The rank by two classes, as the kernel computes it: the valid ones first, each kind in order. -/
theorem rank_two (P : Fin n → Prop) [DecidablePred P] (i : Fin n) :
    ind (P i) * (upTo P i - 1) + ind (¬P i) * ((∑ j, ind (P j)) + upTo (fun j => ¬P j) i - 1)
      = nat (rank (fun j => if P j then 0 else 1) i) := by
  by_cases h : P i
  · rw [ind_true h, ind_false (not_not.mpr h), one_mul, zero_mul, add_zero, upTo_sub_one P i h, rank]
    congr 3
    ext j
    by_cases hj : P j <;> simp [Prec, h, hj]
  · rw [ind_false h, ind_true h, one_mul, zero_mul, zero_add, sum_ind, upTo_add_sub_one (fun j => ¬P j) i h, rank,
      ← Finset.card_union_of_disjoint]
    · congr 2
      ext j
      by_cases hj : P j <;> simp [Prec, h, hj]
    · rw [Finset.disjoint_filter]
      rintro j _ h1 ⟨_, h2⟩
      exact h2 h1

/-- The rank by three classes, as the kernel computes it: kept and valid, kept and not valid, suppressed, each kind in
    order. -/
theorem rank_three (A B C : Fin n → Prop) [DecidablePred A] [DecidablePred B] [DecidablePred C] (c : Fin n → ℕ)
    (hA : ∀ j, A j ↔ c j = 0) (hB : ∀ j, B j ↔ c j = 1) (hC : ∀ j, C j ↔ c j = 2) (hc : ∀ j, c j ≤ 2) (i : Fin n) :
    ind (A i) * (upTo A i - 1) + ind (B i) * ((∑ j, ind (A j)) + upTo B i - 1)
      + ind (C i) * ((∑ j, ind (A j)) + (∑ j, ind (B j)) + upTo C i - 1) = nat (rank c i) := by
  have hd : c i = 0 ∨ c i = 1 ∨ c i = 2 := by have := hc i; omega
  rcases hd with h | h | h
  · have a : A i := (hA i).mpr h
    have b : ¬B i := fun hb => by have := (hB i).mp hb; omega
    have d : ¬C i := fun hb => by have := (hC i).mp hb; omega
    rw [ind_true a, ind_false b, ind_false d, one_mul, zero_mul, zero_mul, add_zero, add_zero, upTo_sub_one A i a, rank]
    congr 3
    ext j
    have := hc j
    simp only [Prec, h, hA]
    constructor
    · rintro ⟨h1, h2⟩; exact Or.inr ⟨h2, h1⟩
    · rintro (h1 | ⟨h1, h2⟩)
      · omega
      · exact ⟨h2, h1⟩
  · have a : ¬A i := fun hb => by have := (hA i).mp hb; omega
    have b : B i := (hB i).mpr h
    have d : ¬C i := fun hb => by have := (hC i).mp hb; omega
    rw [ind_false a, ind_true b, ind_false d, one_mul, zero_mul, zero_mul, add_zero, zero_add, sum_ind,
      upTo_add_sub_one B i b, rank, ← Finset.card_union_of_disjoint]
    · congr 2
      ext j
      simp only [Finset.mem_union, Finset.mem_filter, Finset.mem_univ, true_and, Prec, h, hA, hB]
      constructor
      · rintro (h1 | ⟨h1, h2⟩)
        · left; omega
        · exact Or.inr ⟨h2, h1⟩
      · rintro (h1 | ⟨h1, h2⟩)
        · left; omega
        · exact Or.inr ⟨h2, h1⟩
    · rw [Finset.disjoint_filter]
      rintro j _ h1 ⟨_, h2⟩
      have := (hA j).mp h1
      have := (hB j).mp h2
      omega
  · have a : ¬A i := fun hb => by have := (hA i).mp hb; omega
    have b : ¬B i := fun hb => by have := (hB i).mp hb; omega
    have d : C i := (hC i).mpr h
    rw [ind_false a, ind_false b, ind_true d, one_mul, zero_mul, zero_mul, zero_add, zero_add, sum_ind, sum_ind, ← nat_add,
      upTo_add_sub_one C i d, rank, ← Finset.card_union_of_disjoint, ← Finset.card_union_of_disjoint]
    · congr 2
      ext j
      have := hc j
      simp only [Finset.mem_union, Finset.mem_filter, Finset.mem_univ, true_and, Prec, h, hA, hB, hC]
      constructor
      · rintro ((h1 | h1) | ⟨h1, h2⟩)
        · left; omega
        · left; omega
        · exact Or.inr ⟨h2, h1⟩
      · rintro (h1 | ⟨h1, h2⟩)
        · left; omega
        · exact Or.inr ⟨h2, h1⟩
    · rw [Finset.disjoint_left]
      intro j h1 h2
      simp only [Finset.mem_union, Finset.mem_filter, Finset.mem_univ, true_and, hA, hB, hC] at h1 h2
      omega
    · rw [Finset.disjoint_filter]
      rintro j _ h1 h2
      have := (hA j).mp h1
      have := (hB j).mp h2
      omega

/-- The integer of a small natural number is that number's word. -/
theorem fptosi_nat (k : ℕ) (hk : k < 2 ^ 31) : Ideal.fptosi 32 (nat k) = BitVec.ofNat 32 k := by
  rw [Ideal.fptosi, nat, Ideal.toIntClamped_coe, if_pos (Nat.cast_nonneg k), Int.floor_natCast]
  have h : max (-((2 ^ (32 - 1) : ℕ) : ℤ)) (min (((2 ^ (32 - 1) : ℕ) : ℤ) - 1) (k : ℤ)) = (k : ℤ) := by
    have : (2 ^ (32 - 1) : ℕ) = 2147483648 := by norm_num
    rw [this]
    omega
  rw [h]
  exact BitVec.ofInt_natCast 32 k

/-- A one-bit word widened and made a float is a zero or a one. -/
theorem bit_ind (b : BitVec 1) : FloatOps.sitofp (F := Ideal) .f32 (b.setWidth 32) = ind (b = 1#1) := by
  have : b = 0#1 ∨ b = 1#1 := by revert b; decide
  show (((b.setWidth 32).toInt : ℝ) : EReal) = _
  rcases this with rfl | rfl
  · rw [ind_false (by decide)]; simp
  · rw [ind_true rfl]; simp

attribute [irreducible] order

end Rpn

end
-- ==== Proof.Spec.lean ====
/- The selection, apart from any program: boxes decoded from anchors, validity, scores, the order by score, the overlaps,
   the suppression, the masked scores and the 300 best; and the two class ranks that the kernel computes in their place. -/
module

public import proofs.«01_k».proof.Proof.Order

@[expose] public section

noncomputable section

namespace Rpn

open Idealize.ShloMosaic

/-! ## The constants both programs hold -/

/-- One half. -/
abbrev half : EReal := Ideal.ofBits .f32 0x3F000000#32
/-- The bound on a regressed extent. -/
abbrev clip : EReal := Ideal.ofBits .f32 0x40845349#32
/-- The side of the image. -/
abbrev side : EReal := Ideal.ofBits .f32 0x44480000#32
/-- The overlap above which a box suppresses another. -/
abbrev thresh : EReal := Ideal.ofBits .f32 0x3F333333#32
/-- The least union. -/
abbrev tiny : EReal := Ideal.ofBits .f32 0x3089705F#32
/-- The score of an invalid box. -/
abbrev invalidScore : EReal := Ideal.ofBits .f32 0xBF800000#32
/-- The score of a suppressed box. -/
abbrev suppressedScore : EReal := Ideal.ofBits .f32 0xCE6E6B28#32

/-- The score of an invalid box is minus one. -/
theorem invalidScore_eq : invalidScore = ((-1 : ℝ) : EReal) := by
  simp [Ideal.ofBits, Ideal.ieee, -EReal.coe_mul]; norm_num

/-- The score of a suppressed box is minus a thousand million. -/
theorem suppressedScore_eq : suppressedScore = ((-1000000000 : ℝ) : EReal) := by
  simp [Ideal.ofBits, Ideal.ieee, -EReal.coe_mul]; norm_num

/-- The score of an invalid box is negative. -/
theorem invalid_neg : invalidScore < 0 := by
  rw [invalidScore_eq, ← EReal.coe_zero, EReal.coe_lt_coe_iff]; norm_num

/-- A suppressed box scores less than an invalid one. -/
theorem suppressed_lt : suppressedScore < invalidScore := by
  rw [invalidScore_eq, suppressedScore_eq, EReal.coe_lt_coe_iff]; norm_num

/-! ## The logistic function -/

/-- The logistic function is never negative. -/
theorem logistic_nonneg (x : EReal) : 0 ≤ Ideal.logistic x := by
  induction x with
  | bot => simp
  | coe r => rw [Ideal.logistic_coe, ← EReal.coe_zero, EReal.coe_le_coe_iff]; positivity
  | top => simp

/-- The logistic function is at most one. -/
theorem logistic_le_one (x : EReal) : Ideal.logistic x ≤ 1 := by
  induction x with
  | bot => simp
  | coe r =>
    rw [Ideal.logistic_coe, ← EReal.coe_one, EReal.coe_le_coe_iff]
    exact inv_le_one_of_one_le₀ (by have := Real.exp_pos (-r); linarith)
  | top => simp

/-- The logistic function is monotone. -/
theorem logistic_mono {x y : EReal} (h : x ≤ y) : Ideal.logistic x ≤ Ideal.logistic y := by
  induction x with
  | bot => rw [Ideal.logistic_bot]; exact logistic_nonneg y
  | top => rw [top_le_iff.mp h]
  | coe r =>
    induction y with
    | bot => exact absurd h (not_le.mpr (EReal.bot_lt_coe r))
    | top => rw [Ideal.logistic_top]; exact logistic_le_one _
    | coe s =>
      have h : r ≤ s := EReal.coe_le_coe_iff.mp h
      rw [Ideal.logistic_coe, Ideal.logistic_coe, EReal.coe_le_coe_iff]
      have h1 := Real.exp_pos (-s)
      have h2 : Real.exp (-s) ≤ Real.exp (-r) := Real.exp_le_exp.mpr (by linarith)
      exact inv_anti₀ (by linarith) (by linarith)

/-! ## A box from an anchor, one coordinate -/

/-- The centre of the decoded box along a coordinate: anchor from `a` to `b`, regression `g`. -/
def centre (a b g : EReal) : EReal := g * (b - a) + (a + half * (b - a))
/-- Its extent, regression `e`. -/
def extent (a b e : EReal) : EReal := Ideal.exp (min e clip) * (b - a)
/-- Its lower end inside the image … -/
def low (a b g e : EReal) : EReal := min side (max 0 (centre a b g - half * extent a b e))
/-- … and its upper end. -/
def high (a b g e : EReal) : EReal := min side (max 0 (centre a b g + half * extent a b e))

/-- The decoded boxes of anchors `A` and regressions `G`: lower ends, then upper ends. -/
def boxes {n : ℕ} (A G : Fin n → Fin 4 → EReal) (i : Fin n) : Fin 4 → EReal :=
  ![low (A i 0) (A i 2) (G i 0) (G i 2), low (A i 1) (A i 3) (G i 1) (G i 3),
    high (A i 0) (A i 2) (G i 0) (G i 2), high (A i 1) (A i 3) (G i 1) (G i 3)]

/-- The overlap of two boxes over their union. -/
def overlap (p q : Fin 4 → EReal) : EReal :=
  Ideal.div (max (min (p 2) (q 2) - max (p 0) (q 0)) 0 * max (min (p 3) (q 3) - max (p 1) (q 1)) 0)
    (max (max (p 2 - p 0) 0 * max (p 3 - p 1) 0 + max (q 2 - q 0) 0 * max (q 3 - q 1) 0
      - max (min (p 2) (q 2) - max (p 0) (q 0)) 0 * max (min (p 3) (q 3) - max (p 1) (q 1)) 0) tiny)

section Selection
variable {n : ℕ} (b : Fin n → Fin 4 → EReal) (lg : Fin n → EReal)

/-- A box is valid if it has some extent along both coordinates. -/
def Valid (i : Fin n) : Prop := b i 0 < b i 2 ∧ b i 1 < b i 3

instance (i : Fin n) : Decidable (Valid b i) := by unfold Valid; infer_instance

/-- The score of a box. -/
def score (i : Fin n) : EReal := if Valid b i then Ideal.logistic (lg i) else invalidScore

/-- The box at place `p` of the order by score. -/
def ord : Fin n → Fin n := order (score b lg)

/-- Whether the box at place `p` suppresses the one at place `q`, if it is kept. -/
def Hits (p q : Fin n) : Prop := thresh < overlap (b (ord b lg p)) (b (ord b lg q)) ∧ p < q

instance (p q : Fin n) : Decidable (Hits b lg p q) := Classical.propDecidable _

/-- What is suppressed when the first `k` places have been visited. -/
def Supp : ℕ → Fin n → Prop
  | 0, _ => False
  | k + 1, q => Supp k q ∨ ∃ h : k < n, ¬Supp k ⟨k, h⟩ ∧ Hits b lg ⟨k, h⟩ q

instance (k : ℕ) (q : Fin n) : Decidable (Supp b lg k q) := Classical.propDecidable _

/-- The score at place `p`, of a suppressed box a score below all others. -/
def masked (p : Fin n) : EReal := if Supp b lg n p then suppressedScore else score b lg (ord b lg p)

/-- The place of the `r`-th best. -/
def top : Fin n → Fin n := order (masked b lg)

/-- The `r`-th row of the result: the box, then its score. -/
def result (r : Fin n) (k : Fin 5) : EReal :=
  if h : k.val < 4 then b (ord b lg (top b lg r)) ⟨k.val, h⟩ else masked b lg (top b lg r)

/-! ## The ranks -/

/-- The two classes of boxes. -/
def cls (i : Fin n) : ℕ := if Valid b i then 0 else 1

/-- With descending logits, the box of rank `r` by validity and position is the `r`-th by score. -/
theorem rank_cls_iff (hlg : ∀ i j, i ≤ j → lg j ≤ lg i) (i r : Fin n) :
    rank (cls b) i = r.val ↔ i = ord b lg r := by
  refine rank_eq_iff (score b lg) (cls b) (fun i j h => ?_) (fun i j h hij => ?_) i r
  · unfold cls at h
    unfold score
    by_cases hj : Valid b j
    · by_cases hi : Valid b i
      · simp [hi, hj] at h
      · rw [if_neg hi, if_pos hj]
        exact lt_of_lt_of_le invalid_neg (logistic_nonneg _)
    · by_cases hi : Valid b i <;> simp [hi, hj] at h
  · unfold cls at h
    unfold score
    by_cases hj : Valid b j <;> by_cases hi : Valid b i <;> simp [hi, hj] at h ⊢
    exact logistic_mono (hlg j i hij.le)

/-- The three classes of places. -/
def cls3 (p : Fin n) : ℕ := if Supp b lg n p then 2 else if Valid b (ord b lg p) then 0 else 1

/-- No score is below that of an invalid box. -/
theorem score_ge (i : Fin n) : invalidScore ≤ score b lg i := by
  unfold score
  split
  · exact invalid_neg.le.trans (logistic_nonneg _)
  · exact le_rfl

/-- The place of rank `r` by the three classes and position is the `r`-th by masked score. -/
theorem rank_cls3_iff (p r : Fin n) : rank (cls3 b lg) p = r.val ↔ p = top b lg r := by
  refine rank_eq_iff (masked b lg) (cls3 b lg) (fun i j h => ?_) (fun i j h hij => ?_) p r
  · unfold cls3 at h
    unfold masked
    by_cases hj : Supp b lg n j
    · rw [if_pos hj] at h
      split at h
      · omega
      · split at h <;> omega
    · by_cases hi : Supp b lg n i
      · rw [if_pos hi, if_neg hj]
        exact lt_of_lt_of_le suppressed_lt (score_ge _ _ _)
      · rw [if_neg hi, if_neg hj] at h ⊢
        by_cases vj : Valid b (ord b lg j)
        · by_cases vi : Valid b (ord b lg i)
          · simp [vi, vj] at h
          · unfold score
            rw [if_neg vi, if_pos vj]
            exact lt_of_lt_of_le invalid_neg (logistic_nonneg _)
        · by_cases vi : Valid b (ord b lg i) <;> simp [vi, vj] at h
  · unfold cls3 at h
    unfold masked
    by_cases hj : Supp b lg n j
    · by_cases hi : Supp b lg n i
      · rw [if_pos hi, if_pos hj]
      · rw [if_pos hj, if_neg hi] at h
        split at h <;> omega
    · by_cases hi : Supp b lg n i
      · rw [if_neg hj, if_pos hi] at h
        split at h <;> omega
      · rw [if_neg hi, if_neg hj]
        exact order_antitone (score b lg) j i hij.le

end Selection

end Rpn

end
-- ==== Proof.TopK.lean ====
/- The problem's inputs read flat, the first choice of boxes, and the host's sorts read as orders. -/
module

public import proofs.«01_k».proof.Proof.Spec
public import Idealize.ShloMosaic.Lib.Pointwise

@[expose] public section

set_option maxRecDepth 16384

noncomputable section

namespace Rpn

open Idealize.ShloMosaic

/-! ## The host's sorts as orders -/

/-- The test for greater, as a statement. -/
theorem cmpf_gt (x y : EReal) :
    (FloatOps.cmpfTotal (F := Ideal) (φ := .f32) .gt x y == 1#1) = decide (y < x) := by
  show (Ideal.cmp .ogt x y == 1#1) = _
  unfold Ideal.cmp
  by_cases h : y < x <;> simp [h]

/-- The test for less, as a statement. -/
theorem cmpf_lt (x y : EReal) :
    (FloatOps.cmpfTotal (F := Ideal) (φ := .f32) .lt x y == 1#1) = decide (x < y) := by
  show (Ideal.cmp .olt x y == 1#1) = _
  unfold Ideal.cmp
  by_cases h : x < y <;> simp [h]

section Host
variable {N K : ℕ}

/-- Moving along the second axis of a matrix. -/
theorem along_one (n : Fin 2) (s k : Fin N) (h : 1 < 2) :
    (ix2 n s : (⟨2, ![2, N]⟩ : Shape).Idx).along ⟨1, h⟩ k = ix2 n k := by
  funext a
  match a with
  | ⟨0, _⟩ => rfl
  | ⟨1, _⟩ => rfl

/-- The positions that a sort of two operands by a descending key of the first leaves, read at a place. -/
theorem sort2_snd (x : (⟨2, ![2, N]⟩ : Shape).Idx → EReal) (y : (⟨2, ![2, N]⟩ : Shape).Idx → BitVec 32)
    (cmp : EReal × BitVec 32 → EReal × BitVec 32 → BitVec 1) (key : Fin 2 → Fin N → EReal)
    (hcmp : ∀ n k k', (cmp (x (ix2 n k), y (ix2 n k)) (x (ix2 n k'), y (ix2 n k')) == 1#1) = decide (key n k' < key n k))
    (n : Fin 2) (s : Fin N) :
    (Host.sort2 ⟨2, ![2, N]⟩ 1 cmp x y).2 (ix2 n s) = y (ix2 n (order (key n) s)) := by
  unfold Host.sort2
  rw [dif_pos (by decide : 1 < 2)]
  refine (congrArg y (along_one n s _ _)).trans ?_
  refine congrArg (fun t => y (ix2 n t)) ?_
  unfold order
  refine congrFun (congrArg sortedFrom ?_) s
  funext k k'
  exact (congrArg₂ (fun i j => cmp (x i, y i) (x j, y j) == 1#1) (along_one n s k _) (along_one n s k' _)).trans (hcmp n k k')

/-- A stable sort of pairs by descending key, its keys. -/
theorem sort2_fst (x : (⟨2, ![2, N]⟩ : Shape).Idx → EReal) (y : (⟨2, ![2, N]⟩ : Shape).Idx → BitVec 32)
    (cmp : EReal × BitVec 32 → EReal × BitVec 32 → BitVec 1) (key : Fin 2 → Fin N → EReal)
    (hcmp : ∀ n k k', (cmp (x (ix2 n k), y (ix2 n k)) (x (ix2 n k'), y (ix2 n k')) == 1#1) = decide (key n k' < key n k))
    (n : Fin 2) (s : Fin N) :
    (Host.sort2 ⟨2, ![2, N]⟩ 1 cmp x y).1 (ix2 n s) = x (ix2 n (order (key n) s)) := by
  unfold Host.sort2
  rw [dif_pos (by decide : 1 < 2)]
  refine (congrArg x (along_one n s _ _)).trans ?_
  refine congrArg (fun t => x (ix2 n t)) ?_
  unfold order
  refine congrFun (congrArg sortedFrom ?_) s
  funext k k'
  exact (congrArg₂ (fun i j => cmp (x i, y i) (x j, y j) == 1#1) (along_one n s k _) (along_one n s k' _)).trans (hcmp n k k')

variable (x : (⟨2, ![2, N]⟩ : Shape).Idx → EReal) (h : (⟨2, ![2, N]⟩ : Shape).Slices (fun _ => 0) ⟨2, ![2, K]⟩) (hK : K ≤ N)
include hK

/-- The values of a selection of the greatest. -/
theorem topK_val (n : Fin 2) (i : Fin K) :
    (Host.topK ⟨2, ![2, K]⟩ 1 (FloatOps.cmpfTotal (F := Ideal) (φ := .f32) .gt) x h).1 (ix2 n i)
      = x (ix2 n (order (fun s => x (ix2 n s)) ⟨i.val, by omega⟩)) := by
  refine Eq.trans ?_ (sort2_fst x (fun i => iotaInDim ⟨2, ![2, N]⟩ 32 (1 : Fin 2) i)
    (fun l r => FloatOps.cmpfTotal (F := Ideal) (φ := .f32) .gt l.1 r.1) (fun n s => x (ix2 n s)) (fun n k k' => cmpf_gt _ _) n
    ⟨i.val, by omega⟩)
  refine congrArg (Host.sort2 ⟨2, ![2, N]⟩ 1 (fun l r => FloatOps.cmpfTotal (F := Ideal) (φ := .f32) .gt l.1 r.1) x
    (fun i => iotaInDim ⟨2, ![2, N]⟩ 32 (1 : Fin 2) i)).1 ?_
  funext a
  match a with
  | ⟨0, _⟩ => apply Fin.ext; show 0 + n.val = n.val; omega
  | ⟨1, _⟩ => apply Fin.ext; show 0 + i.val = i.val; omega

/-- The places of a selection of the greatest. -/
theorem topK_idx (n : Fin 2) (i : Fin K) :
    (Host.topK ⟨2, ![2, K]⟩ 1 (FloatOps.cmpfTotal (F := Ideal) (φ := .f32) .gt) x h).2 (ix2 n i)
      = BitVec.ofNat 32 (order (fun s => x (ix2 n s)) ⟨i.val, by omega⟩).val := by
  refine Eq.trans ?_ (sort2_snd x (fun i => iotaInDim ⟨2, ![2, N]⟩ 32 (1 : Fin 2) i)
    (fun l r => FloatOps.cmpfTotal (F := Ideal) (φ := .f32) .gt l.1 r.1) (fun n s => x (ix2 n s)) (fun n k k' => cmpf_gt _ _) n
    ⟨i.val, by omega⟩)
  refine congrArg (Host.sort2 ⟨2, ![2, N]⟩ 1 (fun l r => FloatOps.cmpfTotal (F := Ideal) (φ := .f32) .gt l.1 r.1) x
    (fun i => iotaInDim ⟨2, ![2, N]⟩ 32 (1 : Fin 2) i)).2 ?_
  funext a
  match a with
  | ⟨0, _⟩ => apply Fin.ext; show 0 + n.val = n.val; omega
  | ⟨1, _⟩ => apply Fin.ext; show 0 + i.val = i.val; omega

end Host

/-! ## The inputs -/

section Inputs
variable (a0 : (⟨3, ![2, 19200, 4]⟩ : Shape).Idx → EReal) (a1 : (⟨4, ![2, 3, 80, 80]⟩ : Shape).Idx → EReal)
  (a2 : (⟨4, ![2, 12, 80, 80]⟩ : Shape).Idx → EReal)

/-- The logit of image `n`'s anchor `s`. -/
def flatObj (n : Fin 2) (s : Fin 19200) : EReal :=
  a1 (ix4 n ⟨s.val % 3, by omega⟩ ⟨s.val / 240, by omega⟩ ⟨s.val / 3 % 80, by omega⟩)
/-- Its regression `d`. -/
def flatReg (n : Fin 2) (s : Fin 19200) (d : Fin 4) : EReal :=
  a2 (ix4 n ⟨s.val % 3 * 4 + d.val, by omega⟩ ⟨s.val / 240, by omega⟩ ⟨s.val / 3 % 80, by omega⟩)
/-- The anchors with the greatest logits … -/
def chosen (n : Fin 2) (i : Fin 1000) : Fin 19200 := order (flatObj a1 n) ⟨i.val, by omega⟩
/-- … their logits … -/
def logits (n : Fin 2) (i : Fin 1000) : EReal := flatObj a1 n (chosen a1 n i)
/-- … and their decoded boxes. -/
def decoded (n : Fin 2) : Fin 1000 → Fin 4 → EReal :=
  boxes (fun i d => a0 (ix3 n (chosen a1 n i) d)) (fun i d => flatReg a2 n (chosen a1 n i) d)

/-- The chosen logits descend. -/
theorem logits_antitone (n : Fin 2) (i j : Fin 1000) (h : i ≤ j) : logits a1 n j ≤ logits a1 n i :=
  order_antitone _ _ _ h

/-- The problem's result for image `n`. -/
def proposals (n : Fin 2) (r : Fin 300) (k : Fin 5) : EReal :=
  result (decoded a0 a1 a2 n) (logits a1 n) ⟨r.val, by omega⟩ k

end Inputs

end Rpn

end
-- ==== Proof.KernelRead.lean ====
/- The kernel's payloads read at an index, up to the boxes, the order and the overlaps. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Hand

open Idealize.ShloMosaic
open Cert.KernelIdeal Cert.KernelIdeal.Gen Rpn

/-! ## Comparisons made floats -/

/-- A bit made of a truth value is one if and only if the value is true. -/
theorem ofBool_one (b : Bool) : BitVec.ofBool b = 1#1 ↔ b = true := by cases b <;> simp

/-- An equality test of words, widened and made a float, is a zero or a one. -/
theorem float_eq (a b : BitVec 32) :
    FloatOps.sitofp (F := Ideal) .f32 (BitVec.setWidth 32 (IntOp.cmpi .eq a b)) = ind (a = b) := by
  rw [bit_ind]
  refine ind_congr ?_
  simp only [IntOp.cmpi, ofBool_one, beq_iff_eq]

/-- A truth value as a one-bit word, widened and made a float. -/
theorem float_bool (b : Bool) :
    FloatOps.sitofp (F := Ideal) .f32 (BitVec.setWidth 32 (BitVec.ofBool b)) = ind (b = true) := by
  rw [bit_ind]
  exact ind_congr (by cases b <;> simp)

/-- A small number read as a signed word is itself. -/
theorem toInt_small (k : ℕ) (h : k < 2 ^ 31) : (BitVec.ofNat 32 k).toInt = k := by
  have hk : (BitVec.ofNat 32 k).toNat = k := by rw [BitVec.toNat_ofNat]; omega
  rw [BitVec.toInt_eq_toNat_of_lt (by omega), hk]

/-- The test of `i ≥ j` on small numbers. -/
theorem float_sge {n : ℕ} (hn : n ≤ 2 ^ 31) (i j : Fin n) :
    FloatOps.sitofp (F := Ideal) .f32 (BitVec.setWidth 32 (IntOp.cmpi .sge (BitVec.ofNat 32 i.val) (BitVec.ofNat 32 j.val)))
      = ind (j ≤ i) := by
  rw [bit_ind]
  refine ind_congr ?_
  have hi := toInt_small i.val (lt_of_lt_of_le i.isLt hn)
  have hj := toInt_small j.val (lt_of_lt_of_le j.isLt hn)
  simp [IntOp.cmpi, BitVec.sle, hi, hj, ofBool_one]

/-- The test of `i ≤ j` on small numbers. -/
theorem float_sle {n : ℕ} (hn : n ≤ 2 ^ 31) (i j : Fin n) :
    FloatOps.sitofp (F := Ideal) .f32 (BitVec.setWidth 32 (IntOp.cmpi .sle (BitVec.ofNat 32 i.val) (BitVec.ofNat 32 j.val)))
      = ind (i ≤ j) := by
  rw [bit_ind]
  refine ind_congr ?_
  have hi := toInt_small i.val (lt_of_lt_of_le i.isLt hn)
  have hj := toInt_small j.val (lt_of_lt_of_le j.isLt hn)
  simp [IntOp.cmpi, BitVec.sle, hi, hj, ofBool_one]

/-- The signed comparison of small numbers. -/
theorem sgt_small {n : ℕ} (hn : n ≤ 2 ^ 31) (i j : Fin n) :
    IntOp.cmpi .sgt (BitVec.ofNat 32 i.val) (BitVec.ofNat 32 j.val) = BitVec.ofBool (decide (j < i)) := by
  have hi := toInt_small i.val (lt_of_lt_of_le i.isLt hn)
  have hj := toInt_small j.val (lt_of_lt_of_le j.isLt hn)
  simp [IntOp.cmpi, BitVec.slt, hi, hj]

/-- Small numbers are equal as words if and only if they are equal. -/
theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- The conjunction of two bits made of truth values. -/
theorem and_ofBool (a b : Bool) : IntOp.andi (BitVec.ofBool a) (BitVec.ofBool b) = BitVec.ofBool (a && b) := by
  cases a <;> cases b <;> rfl

/-- An indicator is positive if and only if its statement holds. -/
theorem ind_pos (P : Prop) [Decidable P] : 0 < ind P ↔ P := by
  by_cases h : P
  · rw [ind_true h]; simp [h]
  · rw [ind_false h]; simp [h]

/-! ## The gathered rows -/

/-- One block of 2400 rows of the one-hot product: the row of index `n` if it lies in this block. -/
theorem block_pick (off n : ℕ) (hn : n < 19200) (hoff : off ≤ 16800) (f : Fin 2400 → EReal) :
    ∑ x : Fin 2400, FloatOps.sitofp (F := Ideal) .f32 (BitVec.setWidth 32 (IntOp.cmpi .eq (BitVec.ofNat 32 n)
        (IntOp.addi (BitVec.ofNat 32 off) (BitVec.ofNat 32 x.val)))) * f x
      = if h : off ≤ n ∧ n < off + 2400 then f ⟨n - off, by omega⟩ else 0 := by
  have he : ∀ x : Fin 2400, (BitVec.ofNat 32 n = IntOp.addi (BitVec.ofNat 32 off) (BitVec.ofNat 32 x.val)) ↔ n = off + x.val := by
    intro x
    have : IntOp.addi (BitVec.ofNat 32 off) (BitVec.ofNat 32 x.val) = BitVec.ofNat 32 (off + x.val) := by
      rw [BitVec.ofNat_add]; rfl
    rw [this]
    exact ofNat_inj (by omega) (by omega)
  simp only [float_eq]
  split
  · rename_i h
    refine sum_pick _ ⟨n - off, by omega⟩ (fun x => (he x).trans ?_) f
    rw [Fin.ext_iff]
    simp only
    omega
  · rename_i h
    exact sum_none _ (fun x hx => by have := (he x).mp hx; omega) f

set_option maxHeartbeats 1000000 in
/-- The eight one-hot products together gather the rows of the table by index. -/
theorem gathered (x0 : Vec Ideal S1x19200x8 .f32) (x1 : Vec Ideal S1x1000x1 .i32) (I : Fin 1000 → Fin 19200)
    (hI : ∀ i, x1 (ix3 0 i 0) = BitVec.ofNat 32 (I i).val) (i : Fin 1000) (c : Fin 8) :
    k0_pay9 (k0_pay2 x0) (k0_pay3 x1) (k0_pay5 x0 x1) (k0_pay6 x0) k0_pay7 (k0_pay8 x1) (ix2 i c) = x0 (ix3 0 (I i) c) := by
  pointwise [k0_pay9, k0_pay8, k0_pay7, k0_pay6, k0_pay5, k0_pay2, k0_pay3]
  rw [hI i]
  have hn := (I i).isLt
  rw [block_pick 0 _ hn (by omega), block_pick 2400 _ hn (by omega), block_pick 4800 _ hn (by omega),
    block_pick 7200 _ hn (by omega), block_pick 9600 _ hn (by omega), block_pick 12000 _ hn (by omega),
    block_pick 14400 _ hn (by omega), block_pick 16800 _ hn (by omega)]
  have key : ∀ (k : ℕ) (hk : k < 19200), k = (I i).val → x0 (ix3 0 ⟨k, hk⟩ c) = x0 (ix3 0 (I i) c) := by
    rintro k hk rfl; rfl
  have hcase : (I i).val / 2400 < 8 := by omega
  generalize hq : (I i).val / 2400 = q at hcase
  interval_cases q <;>
    (repeat first | rw [dif_pos (by omega)] | rw [dif_neg (by omega)]) <;>
    simp only [zero_add, add_zero] <;> exact key _ _ (by omega)

/-! ## The decoded boxes -/

section Boxes
variable (v87 v88 : FVec Ideal S1000x4 .f32) (i : Fin 1000)

/-- The first lower end. -/
theorem low0_apply (v92 : FVec Ideal S1000x1 .f32) (h : v92 (ix2 i 0) = v87 (ix2 i 2) - v87 (ix2 i 0)) :
    k0_pay16 v87 v88 v92 (ix2 i 0) = low (v87 (ix2 i 0)) (v87 (ix2 i 2)) (v88 (ix2 i 0)) (v88 (ix2 i 2)) := by
  pointwise [k0_pay16, k0_pay14, k0_pay15, low, centre, extent]
  rw [h]

/-- The first upper end. -/
theorem high0_apply (v92 : FVec Ideal S1000x1 .f32) (h : v92 (ix2 i 0) = v87 (ix2 i 2) - v87 (ix2 i 0)) :
    k0_pay17 v87 v88 v92 (ix2 i 0) = high (v87 (ix2 i 0)) (v87 (ix2 i 2)) (v88 (ix2 i 0)) (v88 (ix2 i 2)) := by
  pointwise [k0_pay17, k0_pay14, k0_pay15, high, centre, extent]
  rw [h]

/-- The second lower end. -/
theorem low1_apply :
    k0_pay23 (k0_pay21 v87 v88) k0_pay22 (ix2 i 0) = low (v87 (ix2 i 1)) (v87 (ix2 i 3)) (v88 (ix2 i 1)) (v88 (ix2 i 3)) := by
  pointwise [k0_pay23, k0_pay21, k0_pay22, k0_pay20, k0_pay19, k0_pay18, low, centre, extent]

/-- The second upper end. -/
theorem high1_apply :
    k0_pay24 (k0_pay19 v87 v88) (k0_pay20 v87 v88) (ix2 i 0)
      = high (v87 (ix2 i 1)) (v87 (ix2 i 3)) (v88 (ix2 i 1)) (v88 (ix2 i 3)) := by
  pointwise [k0_pay24, k0_pay20, k0_pay19, k0_pay18, high, centre, extent]

end Boxes

/-! ## Validity, the order, the rows in order -/

section Ordered
variable (v89 v111 v118 v131 v133 v138 v139 : FVec Ideal S1000x1 .f32) (b : Fin 1000 → Fin 4 → EReal) (lg : Fin 1000 → EReal)

/-- The columns the kernel has computed hold the boxes `b` and the scores of the logits `lg`. -/
structure Columns : Prop where
  low0 : ∀ i : Fin 1000, v111 (ix2 i 0) = b i 0
  low1 : ∀ i : Fin 1000, k0_pay23 v138 v139 (ix2 i 0) = b i 1
  high0 : ∀ i : Fin 1000, v118 (ix2 i 0) = b i 2
  high1 : ∀ i : Fin 1000, k0_pay24 v131 v133 (ix2 i 0) = b i 3
  logit : ∀ i : Fin 1000, v89 (ix2 i 0) = Ideal.logistic (lg i)

variable {v89 v111 v118 v131 v133 v138 v139 b lg}
variable (H : Columns v89 v111 v118 v131 v133 v138 v139 b lg)
include H

/-- The validity column. -/
theorem valid_apply (i : Fin 1000) : k0_pay25 v111 v118 v131 v133 v138 v139 (ix2 i 0) = ind (Valid b i) := by
  have h : k0_pay25 v111 v118 v131 v133 v138 v139 (ix2 i 0)
      = FloatOps.sitofp (F := Ideal) .f32 (BitVec.setWidth 32 (IntOp.andi
          (BitVec.ofBool (decide (v111 (ix2 i 0) < v118 (ix2 i 0))))
          (BitVec.ofBool (decide (k0_pay23 v138 v139 (ix2 i 0) < k0_pay24 v131 v133 (ix2 i 0)))))) := by
    pointwise [k0_pay25]
  rw [h, and_ofBool, float_bool, H.low0, H.low1, H.high0, H.high1]
  exact ind_congr (by simp [Valid])

/-- The kernel's matrix of ones at each box's place. -/
theorem place_apply (hlg : ∀ i j, i ≤ j → lg j ≤ lg i) (i p : Fin 1000) :
    k0_pay26 v111 v118 v131 v133 v138 v139 (ix2 i p) = ind (i = ord b lg p) := by
  pointwise [k0_pay26]
  simp only [valid_apply H, float_sge (show (1000 : ℕ) ≤ 2 ^ 31 by norm_num), one_sub_ind, Fin.sum_univ_one,
    Finset.univ_unique, Finset.sum_singleton]
  rw [show (∑ x, ind (x ≤ i) * ind (Valid b x)) = upTo (Valid b) i from rfl,
    show (∑ x, ind (x ≤ i) * ind (¬Valid b x)) = upTo (fun j => ¬Valid b j) i from rfl, rank_two (Valid b) i]
  rw [show FloatOps.fptosi (F := Ideal) (φ := .f32) 32 (nat (rank (fun j => if Valid b j then 0 else 1) i)) = _ from
    fptosi_nat _ (lt_trans (rank_lt _ i) (by norm_num)), float_eq]
  refine ind_congr ?_
  rw [ofNat_inj (lt_trans (rank_lt _ i) (by norm_num)) (lt_trans p.isLt (by norm_num))]
  exact rank_cls_iff b lg hlg i p

/-- The score column. -/
theorem score_apply (i : Fin 1000) :
    k0_pay27 v89 v111 v118 v131 v133 v138 v139 (ix2 i 4) = score b lg i := by
  pointwise [k0_pay27]
  rw [valid_apply H, H.logit]
  simp only [ind_pos, score]

/-- The matrix's first four columns are the box. -/
theorem box_apply (i : Fin 1000) (k : Fin 4) :
    k0_pay27 v89 v111 v118 v131 v133 v138 v139 (ix2 i ⟨k.val, by omega⟩) = b i k := by
  match k with
  | 0 => rw [← H.low0]; pointwise [k0_pay27]
  | 1 => rw [← H.low1]; pointwise [k0_pay27]
  | 2 => rw [← H.high0]; pointwise [k0_pay27]
  | 3 => rw [← H.high1]; pointwise [k0_pay27]

/-- Its last column is the validity. -/
theorem flag_apply (i : Fin 1000) :
    k0_pay27 v89 v111 v118 v131 v133 v138 v139 (ix2 i 5) = ind (Valid b i) := by
  rw [← valid_apply H]; pointwise [k0_pay27]

variable (hlg : ∀ i j, i ≤ j → lg j ≤ lg i)
include hlg

/-- A row of the permuted matrix. -/
theorem rows_apply (p : Fin 1000) (k : Fin 6) :
    k0_pay28 v89 v111 v118 v131 v133 v138 v139 (ix2 p k) = k0_pay27 v89 v111 v118 v131 v133 v138 v139 (ix2 (ord b lg p) k) := by
  pointwise [k0_pay28]
  simp only [place_apply H hlg]
  exact sum_pick _ _ (fun _ => Iff.rfl) _

/-- A column of the permuted matrix. -/
theorem cols_apply (p : Fin 1000) (k : Fin 6) :
    k0_pay29 (k0_pay26 v111 v118 v131 v133 v138 v139) (k0_pay27 v89 v111 v118 v131 v133 v138 v139)
      (constant S6x1000 .f32 0x00000000#32) (ix2 k p) = k0_pay27 v89 v111 v118 v131 v133 v138 v139 (ix2 (ord b lg p) k) := by
  pointwise [k0_pay29]
  simp only [place_apply H hlg]
  exact sum_pick' _ _ (fun _ => Iff.rfl) _

end Ordered

end Cert.KernelIdeal.Hand

end
-- ==== Proof.ReferenceGather.lean ====
module
public import proofs.«01_k».proof.Proof.ReferenceRun
public import proofs.«01_k».proof.Proof.TopK
public import proofs.«01_k».proof.Proof.KernelRead
public import Idealize.ShloMosaic.Lib.StableHlo.ReadAt
/-!
The reference's gathers, and the order of its sort, read at an index.
-/

@[expose] public section
set_option maxRecDepth 16384
noncomputable section
namespace Cert.ReferenceIdeal.Hand
open Idealize.ShloMosaic Idealize.ShloMosaic.TcCoe Idealize.SL.Sem
open Idealize.ShloMosaic.StableHlo
open Cert.ReferenceIdeal Cert.ReferenceIdeal.Gen Cert.ReferenceIdeal.Value
open Rpn

/-- The index a gather reads after the wrap-around of negative numbers is the number itself. -/
theorem wrap_index (r N : ℕ) (h : r < 2 ^ 31) :
    Scalar.select (IntOp.cmpi .slt (BitVec.ofNat 32 r) 0#32) (IntOp.addi (BitVec.ofNat 32 r) (BitVec.ofNat 32 N)) (BitVec.ofNat 32 r)
      = BitVec.ofNat 32 r := by
  have e : IntOp.cmpi .slt (BitVec.ofNat 32 r) 0#32 = 0#1 := by
    have := Cert.KernelIdeal.Hand.toInt_small r h
    have hr : ¬((r : ℤ) < 0) := by omega
    simp only [IntOp.cmpi, BitVec.slt, this]
    show BitVec.ofBool (decide ((r : ℤ) < 0)) = 0#1
    rw [decide_eq_false hr]; rfl
  rw [e]; rfl

/-- Clamping a small number to a range that holds it changes nothing. -/
theorem clamp_index (r N : ℕ) (h : r < 2 ^ 31) (hN : r ≤ N) : min (BitVec.ofNat 32 r).toInt.toNat N + 0 + 0 = r := by
  rw [Cert.KernelIdeal.Hand.toInt_small r h]; omega

section Gathers
variable {α : Type}

/-- The gather of rows out of all anchors, at an index. -/
theorem gatherAll_at (x : S2x19200x4.Idx → α) (idx : IVec S2x1000x1 32) (n : Fin 2) (i : Fin 1000) (d : Fin 4)
    (r : Fin 19200) (h : idx (ix3 n i 0) = BitVec.ofNat 32 r.val) :
    Host.gather gather_S2x19200x4_S2x1000x1_S2x1000x4_2_1_0_0_1_2_114 x idx (ix3 n i d) = x (ix3 n r d) := by
  refine congrArg x (funext fun a => ?_)
  fin_cases a
  · refine Fin.ext ?_
    show 0 + n.val + 0 = n.val
    omega
  · refine Fin.ext ?_
    show min (idx _).toInt.toNat 19199 + 0 + 0 = r.val
    rw [show GatherDims.siIdx gather_S2x19200x4_S2x1000x1_S2x1000x4_2_1_0_0_1_2_114 (ix3 n i d) _ = ix3 n i 0 from by
      funext b; fin_cases b <;> rfl, h]
    exact clamp_index _ _ (by omega) (by omega)
  · exact Fin.ext (Nat.zero_add _)

/-- The gather of rows out of the chosen boxes, at an index. -/
theorem gatherBox_at (x : S2x1000x4.Idx → α) (idx : IVec S2x1000x1 32) (n : Fin 2) (i : Fin 1000) (d : Fin 4)
    (r : Fin 1000) (h : idx (ix3 n i 0) = BitVec.ofNat 32 r.val) :
    Host.gather gather_S2x1000x4_S2x1000x1_S2x1000x4_2_1_0_0_1_2_114 x idx (ix3 n i d) = x (ix3 n r d) := by
  refine congrArg x (funext fun a => ?_)
  fin_cases a
  · refine Fin.ext ?_
    show 0 + n.val + 0 = n.val
    omega
  · refine Fin.ext ?_
    show min (idx _).toInt.toNat 999 + 0 + 0 = r.val
    rw [show GatherDims.siIdx gather_S2x1000x4_S2x1000x1_S2x1000x4_2_1_0_0_1_2_114 (ix3 n i d) _ = ix3 n i 0 from by
      funext b; fin_cases b <;> rfl, h]
    exact clamp_index _ _ (by omega) (by omega)
  · exact Fin.ext (Nat.zero_add _)

/-- The gather of the best rows, at an index. -/
theorem gatherTop_at (x : S2x1000x4.Idx → α) (idx : IVec S2x300x1 32) (n : Fin 2) (i : Fin 300) (d : Fin 4)
    (r : Fin 1000) (h : idx (ix3 n i 0) = BitVec.ofNat 32 r.val) :
    Host.gather gather_S2x1000x4_S2x300x1_S2x300x4_2_1_0_0_1_2_114 x idx (ix3 n i d) = x (ix3 n r d) := by
  refine congrArg x (funext fun a => ?_)
  fin_cases a
  · refine Fin.ext ?_
    show 0 + n.val + 0 = n.val
    omega
  · refine Fin.ext ?_
    show min (idx _).toInt.toNat 999 + 0 + 0 = r.val
    rw [show GatherDims.siIdx gather_S2x1000x4_S2x300x1_S2x300x4_2_1_0_0_1_2_114 (ix3 n i d) _ = ix3 n i 0 from by
      funext b; fin_cases b <;> rfl, h]
    exact clamp_index _ _ (by omega) (by omega)
  · exact Fin.ext (Nat.zero_add _)

/-- The gather of scores, at an index. -/
theorem gatherScore_at (x : S2x1000.Idx → α) (idx : IVec S2x1000x1 32) (n : Fin 2) (i : Fin 1000)
    (r : Fin 1000) (h : idx (ix3 n i 0) = BitVec.ofNat 32 r.val) :
    Host.gather gather_S2x1000_S2x1000x1_S2x1000_n_1_0_0_1_2_11 x idx (ix2 n i) = x (ix2 n r) := by
  refine congrArg x (funext fun a => ?_)
  fin_cases a
  · refine Fin.ext ?_
    show 0 + n.val + 0 = n.val
    omega
  · refine Fin.ext ?_
    show min (idx _).toInt.toNat 999 + 0 + 0 = r.val
    rw [show GatherDims.siIdx gather_S2x1000_S2x1000x1_S2x1000_n_1_0_0_1_2_11 (ix2 n i) _ = ix3 n i 0 from by
      funext b; fin_cases b <;> rfl, h]
    exact clamp_index _ _ (by omega) (by omega)

end Gathers

/-- The order of the sort: less, once zeros and undefined numbers are put in one form, is less. -/
theorem comparator_eq (l r : EReal × BitVec 32) :
    (comparator_f32_i32_d1 (F := Ideal) l r == 1#1) = decide (l.1 < r.1) := by
  have fix (x : EReal) : (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : EReal) = x := by
    have e1 : FloatOps.cmpf (F := Ideal) (φ := .f32) .une x x = 0#1 := by
      show Ideal.cmp .une x x = 0#1
      simp [Ideal.cmp]
    have e0 : (FloatOps.ofBits (F := Ideal) .f32 0x00000000#32 : EReal) = 0 := by
      show Ideal.ofBits .f32 0x00000000#32 = 0
      simp [Ideal.ofBits, Ideal.ieee]
    rw [e1, e0]
    show Scalar.select _ _ _ = x
    by_cases h : x = 0
    · subst h
      show Scalar.select (FloatOps.cmpf (F := Ideal) (φ := .f32) .oeq (0 : EReal) 0) (0 : EReal) 0 = 0
      unfold Scalar.select
      split <;> rfl
    · have e2 : FloatOps.cmpf (F := Ideal) (φ := .f32) .oeq x (0 : EReal) = 0#1 := by
        show Ideal.cmp .oeq x 0 = 0#1
        simp [Ideal.cmp, h]
      rw [e2]; rfl
  refine Eq.trans ?_ (cmpf_lt l.1 r.1)
  unfold comparator_f32_i32_d1
  exact congrArg (· == 1#1) (congrArg₂ (FloatOps.cmpfTotal (F := Ideal) (φ := .f32) .lt) (fix l.1) (fix r.1))

end Cert.ReferenceIdeal.Hand

end
-- ==== Proof.ReferenceRead.lean ====
module
public import proofs.«01_k».proof.Proof.ReferenceGather
public import proofs.«01_k».proof.Proof.TopK
public import Idealize.ShloMosaic.Lib.StableHlo.ReadAt
/-!
What each stretch of the reference's operations leaves, read at an index, from any contents before it.
-/

@[expose] public section
set_option maxRecDepth 16384
noncomputable section
namespace Cert.ReferenceIdeal.Hand
open Idealize.ShloMosaic Idealize.ShloMosaic.TcCoe Idealize.SL.Sem
open Idealize.ShloMosaic.StableHlo
open Cert.ReferenceIdeal Cert.ReferenceIdeal.Gen Cert.ReferenceIdeal.Value
open Rpn

variable (U : Valuation τ sig (Elt Ideal))

/-- The contents of the reference's arguments. -/
abbrev in0 : S2x19200x4.Idx → EReal := U (Proc.devRef .tc main_arg0)
/-- The second argument. -/
abbrev in1 : S2x3x80x80.Idx → EReal := U (Proc.devRef .tc main_arg1)
/-- The third argument. -/
abbrev in2 : S2x12x80x80.Idx → EReal := U (Proc.devRef .tc main_arg2)

/-- Some of the reference's buffers, as arrays of numbers. -/
abbrev zeroOf : S_.Idx → EReal := U (Proc.devRef .tc main_cst_9)
/-- The upper bound of a clip. -/
abbrev sideOf : S_.Idx → EReal := U (Proc.devRef .tc main_cst_10)
/-- The decoded boxes. -/
abbrev boxOf : S2x1000x4.Idx → EReal := U (Proc.devRef .tc main_v74)
/-- The scores. -/
abbrev scoreOf : S2x1000.Idx → EReal := U (Proc.devRef .tc main_v79)
/-- The negated scores. -/
abbrev negOf : S2x1000.Idx → EReal := U (Proc.devRef .tc main_v80)

/-! ## The first selection -/

/-- The flattened regressions. -/
theorem s0_reg (n : Fin 2) (s : Fin 19200) (d : Fin 4) :
    (after hostOps0 U (Proc.devRef .tc main_v6) : S2x19200x4.Idx → EReal) (ix3 n s d) = flatReg (in2 U) n s d := by
  after_reads_at
  rfl

/-- The chosen anchors. -/
theorem s0_row (n : Fin 2) (i : Fin 1000) :
    (after hostOps0 U (Proc.devRef .tc main_indices) : S2x1000.Idx → BitVec 32) (ix2 n i)
      = BitVec.ofNat 32 (chosen (in1 U) n i).val := by
  refine Eq.trans ?_ (topK_idx (fun i : S2x19200.Idx => flatObj (in1 U) (i 0) (i 1)) sliceFits_S2x19200_S2x1000 (by norm_num) n i)
  unfold flatObj
  after_reads_at
  rfl

/-- The chosen anchors, as the gather reads them. -/
theorem s0_row' (n : Fin 2) (i : Fin 1000) :
    (after hostOps0 U (Proc.devRef .tc main_v13) : S2x1000x1.Idx → BitVec 32) (ix3 n i 0)
      = BitVec.ofNat 32 (chosen (in1 U) n i).val := by
  refine Eq.trans ?_ (topK_idx (fun i : S2x19200.Idx => flatObj (in1 U) (i 0) (i 1)) sliceFits_S2x19200_S2x1000 (by norm_num) n i)
  unfold flatObj
  after_reads_at
  rfl

/-- The logistic function of the logits. -/
theorem s0_sig (n : Fin 2) (i : Fin 1000) :
    (after hostOps0 U (Proc.devRef .tc main_v12) : S2x1000.Idx → EReal) (ix2 n i) = Ideal.logistic (logits (in1 U) n i) := by
  refine Eq.trans ?_ (congrArg Ideal.logistic
    (topK_val (fun i : S2x19200.Idx => flatObj (in1 U) (i 0) (i 1)) sliceFits_S2x19200_S2x1000 (by norm_num) n i))
  unfold flatObj
  after_reads_at
  rfl

/-- The gather of regressions. -/
theorem s1_at (n : Fin 2) (i : Fin 1000) (d : Fin 4) (r : Fin 19200)
    (h : (U (Proc.devRef .tc main_v13) : S2x1000x1.Idx → BitVec 32) (ix3 n i 0) = BitVec.ofNat 32 r.val) :
    (after hostOps0_1 U (Proc.devRef .tc main_v14) : S2x1000x4.Idx → EReal) (ix3 n i d)
      = (U (Proc.devRef .tc main_v6) : S2x19200x4.Idx → EReal) (ix3 n r d) := by
  after_reads_at
  refine gatherAll_at _ _ n i d r ?_
  pointwise
  rw [h]
  exact wrap_index _ 19200 (by omega)

/-- The chosen anchors, as the second gather reads them. -/
theorem s2_at (n : Fin 2) (i : Fin 1000) :
    (after hostOps0_2 U (Proc.devRef .tc main_v15) : S2x1000x1.Idx → BitVec 32) (ix3 n i 0)
      = (U (Proc.devRef .tc main_indices) : S2x1000.Idx → BitVec 32) (ix2 n i) := by
  after_reads_at

/-- The gather of anchors. -/
theorem s3_at (n : Fin 2) (i : Fin 1000) (d : Fin 4) (r : Fin 19200)
    (h : (U (Proc.devRef .tc main_v15) : S2x1000x1.Idx → BitVec 32) (ix3 n i 0) = BitVec.ofNat 32 r.val) :
    (after hostOps0_3 U (Proc.devRef .tc main_v16) : S2x1000x4.Idx → EReal) (ix3 n i d) = in0 U (ix3 n r d) := by
  after_reads_at
  refine gatherAll_at _ _ n i d r ?_
  pointwise
  rw [h]
  exact wrap_index _ 19200 (by omega)

/-! ## The decoded boxes -/

/-- The decoded box before it is cut to the image. -/
def rawBox (A G : Fin 4 → EReal) : Fin 4 → EReal :=
  ![centre (A 0) (A 2) (G 0) - half * extent (A 0) (A 2) (G 2), centre (A 1) (A 3) (G 1) - half * extent (A 1) (A 3) (G 3),
    centre (A 0) (A 2) (G 0) + half * extent (A 0) (A 2) (G 2), centre (A 1) (A 3) (G 1) + half * extent (A 1) (A 3) (G 3)]

/-- The decoded box before it is cut to the image. -/
theorem s4_at (n : Fin 2) (i : Fin 1000) (k : Fin 4) :
    (after hostOps0_4 U (Proc.devRef .tc main_v73) : S2x1000x4.Idx → EReal) (ix3 n i k)
      = rawBox (fun d => (U (Proc.devRef .tc main_v16) : S2x1000x4.Idx → EReal) (ix3 n i d))
          (fun d => (U (Proc.devRef .tc main_v14) : S2x1000x4.Idx → EReal) (ix3 n i d)) k := by
  fin_cases k
  · show (after hostOps0_4 U (Proc.devRef .tc main_v73) : S2x1000x4.Idx → EReal) (ix3 n i 0) = _
    after_reads_at
    after_reads_at
    rfl
  · show (after hostOps0_4 U (Proc.devRef .tc main_v73) : S2x1000x4.Idx → EReal) (ix3 n i 1) = _
    after_reads_at
    after_reads_at
    rfl
  · show (after hostOps0_4 U (Proc.devRef .tc main_v73) : S2x1000x4.Idx → EReal) (ix3 n i 2) = _
    after_reads_at
    after_reads_at
    rfl
  · show (after hostOps0_4 U (Proc.devRef .tc main_v73) : S2x1000x4.Idx → EReal) (ix3 n i 3) = _
    after_reads_at
    after_reads_at
    rfl

/-- The image's lower bound. -/
theorem s4_zero : zeroOf (after hostOps0_4 U) ix0 = 0 := by
  unfold zeroOf
  after_reads_at

/-- The image's upper bound. -/
theorem s4_side : (after hostOps0_4 U (Proc.devRef .tc main_cst_10) : S_.Idx → EReal) ix0 = side := by
  after_reads_at

/-- The cut to the image. -/
theorem s5_at (n : Fin 2) (i : Fin 1000) (k : Fin 4) :
    (after hostOps0_5 U (Proc.devRef .tc main_v74) : S2x1000x4.Idx → EReal) (ix3 n i k)
      = min (sideOf U ix0) (max (zeroOf U ix0)
          ((U (Proc.devRef .tc main_v73) : S2x1000x4.Idx → EReal) (ix3 n i k))) := by
  after_reads_at
  rfl

/-! ## The scores -/

/-- The validity of a box. -/
theorem s6_at (n : Fin 2) (i : Fin 1000) :
    (after hostOps0_6 U (Proc.devRef .tc main_v78) : S2x1000.Idx → BitVec 1) (ix2 n i)
      = BitVec.ofBool (decide (Valid (fun (i : Fin 1000) d => boxOf U (ix3 n i d)) i)) := by
  after_reads_at
  rw [show (Finset.univ : Finset (Fin 2)) = {0, 1} from rfl, Finset.fold_insert (by decide), Finset.fold_singleton]
  show BitVec.ofBool (decide (boxOf U (ix3 n i 0) < boxOf U (ix3 n i 2)))
    &&& (BitVec.ofBool (decide (boxOf U (ix3 n i 1) < boxOf U (ix3 n i 3))) &&& 1#1) = _
  unfold Valid
  by_cases h0 : boxOf U (ix3 n i 0) < boxOf U (ix3 n i 2) <;> by_cases h1 : boxOf U (ix3 n i 1) < boxOf U (ix3 n i 3) <;>
    simp [h0, h1]

/-- The score of an invalid box. -/
theorem s6_invalid : (after hostOps0_6 U (Proc.devRef .tc main_cst_11) : S_.Idx → EReal) ix0 = invalidScore := by
  after_reads_at

/-- The score of a box, by its validity. -/
theorem s7_at (n : Fin 2) (i : Fin 1000) :
    (after hostOps0_7 U (Proc.devRef .tc main_v79) : S2x1000.Idx → EReal) (ix2 n i)
      = Scalar.select ((U (Proc.devRef .tc main_v78) : S2x1000.Idx → BitVec 1) (ix2 n i))
          ((U (Proc.devRef .tc main_v12) : S2x1000.Idx → EReal) (ix2 n i)) ((U (Proc.devRef .tc main_cst_11) : S_.Idx → EReal) ix0) := by
  after_reads_at
  rfl

/-! ## The order by score -/

/-- The negated score. -/
theorem s8_at (n : Fin 2) (i : Fin 1000) :
    (after hostOps0_8 U (Proc.devRef .tc main_v80) : S2x1000.Idx → EReal) (ix2 n i)
      = -scoreOf U (ix2 n i) := by
  after_reads_at

/-- The sort by negated score is the descending order. -/
theorem s9_at (key : Fin 2 → Fin 1000 → EReal)
    (h : ∀ n i, negOf U (ix2 n i) = -key n i) (n : Fin 2) (i : Fin 1000) :
    (after hostOps0_9 U (Proc.devRef .tc main_v81) : S2x1000.Idx → BitVec 32) (ix2 n i) = BitVec.ofNat 32 (order (key n) i).val := by
  after_reads_at
  refine sort2_snd _ _ _ key (fun n k k' => ?_) n i
  rw [comparator_eq]
  refine decide_eq_decide.mpr ?_
  show negOf U (ix2 n k) < negOf U (ix2 n k') ↔ _
  rw [h, h]
  exact EReal.neg_lt_neg_iff

/-- The order, as the gather of boxes reads it. -/
theorem s10_at (n : Fin 2) (i : Fin 1000) :
    (after hostOps0_10 U (Proc.devRef .tc main_v82) : S2x1000x1.Idx → BitVec 32) (ix3 n i 0)
      = (U (Proc.devRef .tc main_v81) : S2x1000.Idx → BitVec 32) (ix2 n i) := by
  after_reads_at

/-- The gather of boxes. -/
theorem s11_at (n : Fin 2) (i : Fin 1000) (d : Fin 4) (r : Fin 1000)
    (h : (U (Proc.devRef .tc main_v82) : S2x1000x1.Idx → BitVec 32) (ix3 n i 0) = BitVec.ofNat 32 r.val) :
    (after hostOps0_11 U (Proc.devRef .tc main_v83) : S2x1000x4.Idx → EReal) (ix3 n i d)
      = (U (Proc.devRef .tc main_v74) : S2x1000x4.Idx → EReal) (ix3 n r d) := by
  after_reads_at
  refine gatherBox_at _ _ n i d r ?_
  pointwise
  rw [h]
  exact wrap_index _ 1000 (by omega)

/-- The gather of scores. -/
theorem s12_at (n : Fin 2) (i : Fin 1000) (r : Fin 1000)
    (h : (U (Proc.devRef .tc main_v81) : S2x1000.Idx → BitVec 32) (ix2 n i) = BitVec.ofNat 32 r.val) :
    (after hostOps0_12 U (Proc.devRef .tc main_v84) : S2x1000.Idx → EReal) (ix2 n i)
      = (U (Proc.devRef .tc main_v79) : S2x1000.Idx → EReal) (ix2 n r) := by
  after_reads_at
  refine gatherScore_at _ _ n i r ?_
  show Scalar.select (IntOp.cmpi .slt ((U (Proc.devRef .tc main_v81) : S2x1000.Idx → BitVec 32) (ix2 n i)) 0#32)
    (IntOp.addi ((U (Proc.devRef .tc main_v81) : S2x1000.Idx → BitVec 32) (ix2 n i)) 1000#32)
    ((U (Proc.devRef .tc main_v81) : S2x1000.Idx → BitVec 32) (ix2 n i)) = _
  rw [h]
  exact wrap_index _ 1000 (by omega)

/-! ## The overlaps and the loop's entry -/

/-- The overlaps of the sorted boxes. -/
theorem s13_overlap (n : Fin 2) (p q : Fin 1000) :
    (after hostOps0_13 U (Proc.devRef .tc main_v124_0) : S2x1000x1000.Idx → EReal) (ix3 n p q)
      = overlap (fun d => (U (Proc.devRef .tc main_v83) : S2x1000x4.Idx → EReal) (ix3 n p d))
          (fun d => (U (Proc.devRef .tc main_v83) : S2x1000x4.Idx → EReal) (ix3 n q d)) := by
  after_reads_at
  rfl

/-- The place numbers. -/
theorem s13_iota (q : Fin 1000) :
    (after hostOps0_13 U (Proc.devRef .tc main_v124_1) : S1000.Idx → BitVec 32) (ix1 q) = BitVec.ofNat 32 q.val := by
  after_reads_at
  rfl

/-- The counter starts at zero. -/
theorem s13_count :
    (after hostOps0_13 U (Proc.devRef .tc main_v124_3) : S_.Idx → BitVec 32) ix0 = 0#32 := by
  after_reads_at
  rfl

/-- Nothing is suppressed at the start. -/
theorem s13_none (n : Fin 2) (q : Fin 1000) :
    (after hostOps0_13 U (Proc.devRef .tc main_v124_4) : S2x1000.Idx → BitVec 1) (ix2 n q) = 0#1 := by
  after_reads_at
  rfl

end Cert.ReferenceIdeal.Hand

end
-- ==== Proof.ReferenceLoop.lean ====
module
public import proofs.«01_k».proof.Proof.ReferenceRead
public import proofs.«01_k».proof.Proof.TopK
public import Idealize.ShloMosaic.Lib.StableHlo.ReadAt
/-!
The reference's loop: what its bits say before each trip.
-/

@[expose] public section
set_option maxRecDepth 16384
noncomputable section
namespace Cert.ReferenceIdeal.Hand
open Idealize.ShloMosaic Idealize.ShloMosaic.TcCoe Idealize.SL.Sem
open Idealize.ShloMosaic.StableHlo
open Cert.ReferenceIdeal Cert.ReferenceIdeal.Gen Cert.ReferenceIdeal.Value
open Rpn

section Loop
variable (V : Valuation τ sig (Elt Ideal))

/-- The row the loop reads at trip `k`, as a number. -/
theorem trip_index (k : ℕ) (hk : k < 1000) :
    (Scalar.select (IntOp.cmpi .slt (BitVec.ofNat 32 k) 0#32) (IntOp.addi (BitVec.ofNat 32 k) 1000#32) (BitVec.ofNat 32 k)).toInt
      = (k : ℤ) := by
  rw [wrap_index k 1000 (by omega), Cert.KernelIdeal.Hand.toInt_small k (by omega)]

/-- The start along an axis of two that is read whole is zero. -/
theorem zero_index : (Scalar.select (IntOp.cmpi .slt 0#32 0#32) (IntOp.addi 0#32 2#32) 0#32).toInt = ((0 : ℕ) : ℤ) := by decide

/-- The start along an axis of a thousand that is read whole is zero. -/
theorem zero_index' : (Scalar.select (IntOp.cmpi .slt 0#32 0#32) (IntOp.addi 0#32 1000#32) 0#32).toInt = ((0 : ℕ) : ℤ) := by
  decide

/-- Zero added to a number. -/
theorem lead {a n : ℕ} (h : a = 0) : a + n = n := by omega

/-- One trip's rule on the bits, once the reads are at the visited place. -/
theorem trip_rule (b : Fin 1000 → Fin 4 → EReal) (lg : Fin 1000 → EReal) (k : ℕ) (hk : k < 1000) (n : Fin 2) (q : Fin 1000)
    (x4 : S2x1000.Idx → BitVec 1) (x0 : S2x1000x1000.Idx → EReal) (x1 : S1000.Idx → BitVec 32)
    (h4 : ∀ q, x4 (ix2 n q) = BitVec.ofBool (decide (Supp b lg k q)))
    (h0 : ∀ p q, x0 (ix3 n p q) = overlap (b (ord b lg p)) (b (ord b lg q)))
    (h1 : ∀ q : Fin 1000, x1 (ix1 q) = BitVec.ofNat 32 q.val)
    (i4 : Fin 2) (j4 : Fin 1000) (i0 : Fin 2) (j0 l0 : Fin 1000)
    (e1 : i4.val = n.val) (e2 : j4.val = k) (e3 : i0.val = n.val) (e4 : j0.val = k) (e5 : l0.val = q.val) :
    IntOp.ori (x4 (ix2 n q)) (IntOp.andi (IntOp.andi (~~~x4 (ix2 i4 j4)) (BitVec.ofBool (decide (thresh < x0 (ix3 i0 j0 l0)))))
      (IntOp.cmpi .sgt (x1 (ix1 q)) (BitVec.ofNat 32 k))) = BitVec.ofBool (decide (Supp b lg (k + 1) q)) := by
  obtain rfl : i4 = n := Fin.ext e1
  obtain rfl : i0 = i4 := Fin.ext e3
  obtain rfl : l0 = q := Fin.ext e5
  rw [show j4 = ⟨k, hk⟩ from Fin.ext e2, show j0 = ⟨k, hk⟩ from Fin.ext e4, h4, h4, h0, h1,
    Cert.KernelIdeal.Hand.sgt_small (n := 1000) (by norm_num) l0 ⟨k, hk⟩]
  have hs : Supp b lg (k + 1) l0 ↔ (Supp b lg k l0 ∨ (¬Supp b lg k ⟨k, hk⟩
      ∧ thresh < overlap (b (ord b lg ⟨k, hk⟩)) (b (ord b lg l0))) ∧ (⟨k, hk⟩ : Fin 1000) < l0) := by
    refine or_congr Iff.rfl ⟨fun ⟨_, a, c, d⟩ => ⟨⟨a, c⟩, d⟩, fun ⟨⟨a, c⟩, d⟩ => ⟨hk, a, c, d⟩⟩
  show BitVec.ofBool _ ||| ((~~~BitVec.ofBool _ &&& BitVec.ofBool _) &&& BitVec.ofBool _) = _
  by_cases a : Supp b lg k l0 <;> by_cases c : Supp b lg k ⟨k, hk⟩ <;>
    by_cases d : thresh < overlap (b (ord b lg ⟨k, hk⟩)) (b (ord b lg l0)) <;> by_cases e : (⟨k, hk⟩ : Fin 1000) < l0 <;>
    simp [hs, a, c, d, e]

/-- One trip marks what the visited place suppresses. -/
theorem step_supp (b : Fin 1000 → Fin 4 → EReal) (lg : Fin 1000 → EReal) (k : ℕ) (hk : k < 1000) (n : Fin 2)
    (h3 : V (Proc.devRef .tc main_v124_3) = fun _ => BitVec.ofNat 32 k)
    (h4 : ∀ q, (V (Proc.devRef .tc main_v124_4) : S2x1000.Idx → BitVec 1) (ix2 n q) = BitVec.ofBool (decide (Supp b lg k q)))
    (h0 : ∀ p q, (V (Proc.devRef .tc main_v124_0) : S2x1000x1000.Idx → EReal) (ix3 n p q)
      = overlap (b (ord b lg p)) (b (ord b lg q)))
    (h1 : ∀ q : Fin 1000, (V (Proc.devRef .tc main_v124_1) : S1000.Idx → BitVec 32) (ix1 q) = BitVec.ofNat 32 q.val)
    (q : Fin 1000) :
    (step_main_v124_4 V : S2x1000.Idx → BitVec 1) (ix2 n q) = BitVec.ofBool (decide (Supp b lg (k + 1) q)) := by
  unfold step_main_v124_4 res_main_while0b_v132 res_main_while0b_v143
  rw [h3]
  simp only [id]
  clean_types
  pointwise
  refine trip_rule b lg k hk n q _ _ _ h4 h0 h1 _ _ _ _ _ ?_ ?_ ?_ ?_ ?_
  · refine lead (Host.clampedStart_of_le _ _ _ 0 ?_ ?_)
    · exact zero_index
    · decide
  · rw [Fin.val_mk]
    refine Host.clampedStart_of_le _ _ _ k ?_ ?_
    · exact trip_index k hk
    · show k + 1 ≤ 1000
      omega
  · refine lead (Host.clampedStart_of_le _ _ _ 0 ?_ ?_)
    · exact zero_index
    · decide
  · rw [Fin.val_mk]
    refine Host.clampedStart_of_le _ _ _ k ?_ ?_
    · exact trip_index k hk
    · show k + 1 ≤ 1000
      omega
  · refine lead (Host.clampedStart_of_le _ _ _ 0 ?_ ?_)
    · exact zero_index'
    · decide

/-- The counter before trip `k`. -/
theorem iter_count (h3 : V (Proc.devRef .tc main_v124_3) = fun _ => BitVec.ofNat 32 0) : ∀ k,
    (STEP^[k] V) (Proc.devRef .tc main_v124_3) = fun _ => BitVec.ofNat 32 k
  | 0 => h3
  | k + 1 => by
    rw [Function.iterate_succ_apply', STEP_main_v124_3, step_main_v124_3, iter_count h3 k]
    funext i
    show BitVec.ofNat 32 k + 1#32 = BitVec.ofNat 32 (k + 1)
    rw [BitVec.ofNat_add]

/-- The trips leave the overlaps as they are. -/
theorem iter_overlap : ∀ k, (STEP^[k] V) (Proc.devRef .tc main_v124_0) = V (Proc.devRef .tc main_v124_0)
  | 0 => rfl
  | k + 1 => by rw [Function.iterate_succ_apply', STEP_main_v124_0, iter_overlap k]

/-- The trips leave the place numbers as they are. -/
theorem iter_iota : ∀ k, (STEP^[k] V) (Proc.devRef .tc main_v124_1) = V (Proc.devRef .tc main_v124_1)
  | 0 => rfl
  | k + 1 => by rw [Function.iterate_succ_apply', STEP_main_v124_1, iter_iota k]

/-- What is suppressed before trip `k`. -/
theorem iter_supp (b : Fin 1000 → Fin 4 → EReal) (lg : Fin 1000 → EReal) (n : Fin 2)
    (h3 : V (Proc.devRef .tc main_v124_3) = fun _ => BitVec.ofNat 32 0)
    (h4 : ∀ q, (V (Proc.devRef .tc main_v124_4) : S2x1000.Idx → BitVec 1) (ix2 n q) = 0#1)
    (h0 : ∀ p q, (V (Proc.devRef .tc main_v124_0) : S2x1000x1000.Idx → EReal) (ix3 n p q)
      = overlap (b (ord b lg p)) (b (ord b lg q)))
    (h1 : ∀ q : Fin 1000, (V (Proc.devRef .tc main_v124_1) : S1000.Idx → BitVec 32) (ix1 q) = BitVec.ofNat 32 q.val) :
    ∀ k, k ≤ 1000 → ∀ q, ((STEP^[k] V) (Proc.devRef .tc main_v124_4) : S2x1000.Idx → BitVec 1) (ix2 n q)
      = BitVec.ofBool (decide (Supp b lg k q))
  | 0, _, q => (h4 q).trans (by
      have : ¬Supp b lg 0 q := id
      rw [decide_eq_false this]; rfl)
  | k + 1, hk, q => by
    rw [Function.iterate_succ_apply', STEP_main_v124_4]
    refine step_supp _ b lg k hk n (iter_count V h3 k) (iter_supp b lg n h3 h4 h0 h1 k (by omega)) ?_ ?_ q
    · rw [iter_overlap]; exact h0
    · rw [iter_iota]; exact h1

end Loop

end Cert.ReferenceIdeal.Hand

end
-- ==== Proof.ReferenceEntry.lean ====
module
public import proofs.«01_k».proof.Proof.ReferenceLoop
public import proofs.«01_k».proof.Proof.TopK
public import Idealize.ShloMosaic.Lib.StableHlo.ReadAt
/-!
The reference's contents at the loop's entry, and what the loop has suppressed at its end.
-/

@[expose] public section
set_option maxRecDepth 16384
noncomputable section
namespace Cert.ReferenceIdeal.Hand
open Idealize.ShloMosaic Idealize.ShloMosaic.TcCoe Idealize.SL.Sem
open Idealize.ShloMosaic.StableHlo
open Cert.ReferenceIdeal Cert.ReferenceIdeal.Gen Cert.ReferenceIdeal.Value
open Rpn

variable (U : Valuation τ sig (Elt Ideal))

/-! ## The contents after each stretch before the loop -/

/-- The contents after stretch 1. -/
def w1 := after hostOps0 U
/-- The contents after stretch 2. -/
def w2 := after hostOps0_1 (w1 U)
/-- The contents after stretch 3. -/
def w3 := after hostOps0_2 (w2 U)
/-- The contents after stretch 4. -/
def w4 := after hostOps0_3 (w3 U)
/-- The contents after stretch 5. -/
def w5 := after hostOps0_4 (w4 U)
/-- The contents after stretch 6. -/
def w6 := after hostOps0_5 (w5 U)
/-- The contents after stretch 7. -/
def w7 := after hostOps0_6 (w6 U)
/-- The contents after stretch 8. -/
def w8 := after hostOps0_7 (w7 U)
/-- The contents after stretch 9. -/
def w9 := after hostOps0_8 (w8 U)
/-- The contents after stretch 10. -/
def w10 := after hostOps0_9 (w9 U)
/-- The contents after stretch 11. -/
def w11 := after hostOps0_10 (w10 U)
/-- The contents after stretch 12. -/
def w12 := after hostOps0_11 (w11 U)
/-- The contents after stretch 13. -/
def w13 := after hostOps0_12 (w12 U)
/-- The contents after stretch 14. -/
def w14 := after hostOps0_13 (w13 U)

/-- All stretches before the loop, one after the other. -/
theorem pre_eq : afterL preI U = w14 U := by
  simp only [preI, afterL_cons, afterL_nil]
  rfl

variable {r : Ref sig .tc}

/-- Stretch 1 leaves alone what it does not write. -/
theorem keep1 (h : r ∉ hostOps0_W) : w1 U (Proc.devRef .tc r) = U (Proc.devRef .tc r) := after_of_writes_sub _ _ hostOps0_writes h
/-- Stretch 2 leaves alone what it does not write. -/
theorem keep2 (h : r ∉ hostOps0_1_W) : w2 U (Proc.devRef .tc r) = w1 U (Proc.devRef .tc r) := after_of_writes_sub _ _ hostOps0_1_writes h
/-- Stretch 3 leaves alone what it does not write. -/
theorem keep3 (h : r ∉ hostOps0_2_W) : w3 U (Proc.devRef .tc r) = w2 U (Proc.devRef .tc r) := after_of_writes_sub _ _ hostOps0_2_writes h
/-- Stretch 4 leaves alone what it does not write. -/
theorem keep4 (h : r ∉ hostOps0_3_W) : w4 U (Proc.devRef .tc r) = w3 U (Proc.devRef .tc r) := after_of_writes_sub _ _ hostOps0_3_writes h
/-- Stretch 5 leaves alone what it does not write. -/
theorem keep5 (h : r ∉ hostOps0_4_W) : w5 U (Proc.devRef .tc r) = w4 U (Proc.devRef .tc r) := after_of_writes_sub _ _ hostOps0_4_writes h
/-- Stretch 6 leaves alone what it does not write. -/
theorem keep6 (h : r ∉ hostOps0_5_W) : w6 U (Proc.devRef .tc r) = w5 U (Proc.devRef .tc r) := after_of_writes_sub _ _ hostOps0_5_writes h
/-- Stretch 7 leaves alone what it does not write. -/
theorem keep7 (h : r ∉ hostOps0_6_W) : w7 U (Proc.devRef .tc r) = w6 U (Proc.devRef .tc r) := after_of_writes_sub _ _ hostOps0_6_writes h
/-- Stretch 8 leaves alone what it does not write. -/
theorem keep8 (h : r ∉ hostOps0_7_W) : w8 U (Proc.devRef .tc r) = w7 U (Proc.devRef .tc r) := after_of_writes_sub _ _ hostOps0_7_writes h
/-- Stretch 9 leaves alone what it does not write. -/
theorem keep9 (h : r ∉ hostOps0_8_W) : w9 U (Proc.devRef .tc r) = w8 U (Proc.devRef .tc r) := after_of_writes_sub _ _ hostOps0_8_writes h
/-- Stretch 10 leaves alone what it does not write. -/
theorem keep10 (h : r ∉ hostOps0_9_W) : w10 U (Proc.devRef .tc r) = w9 U (Proc.devRef .tc r) := after_of_writes_sub _ _ hostOps0_9_writes h
/-- Stretch 11 leaves alone what it does not write. -/
theorem keep11 (h : r ∉ hostOps0_10_W) : w11 U (Proc.devRef .tc r) = w10 U (Proc.devRef .tc r) := after_of_writes_sub _ _ hostOps0_10_writes h
/-- Stretch 12 leaves alone what it does not write. -/
theorem keep12 (h : r ∉ hostOps0_11_W) : w12 U (Proc.devRef .tc r) = w11 U (Proc.devRef .tc r) := after_of_writes_sub _ _ hostOps0_11_writes h
/-- Stretch 13 leaves alone what it does not write. -/
theorem keep13 (h : r ∉ hostOps0_12_W) : w13 U (Proc.devRef .tc r) = w12 U (Proc.devRef .tc r) := after_of_writes_sub _ _ hostOps0_12_writes h
/-- Stretch 14 leaves alone what it does not write. -/
theorem keep14 (h : r ∉ hostOps0_13_W) : w14 U (Proc.devRef .tc r) = w13 U (Proc.devRef .tc r) := after_of_writes_sub _ _ hostOps0_13_writes h

/-- The decoded boxes, the logits and the scores of the inputs. -/
abbrev bx (n : Fin 2) := decoded (in0 U) (in1 U) (in2 U) n
/-- The logits of the inputs. -/
abbrev lo (n : Fin 2) := logits (in1 U) n
/-- The chosen anchors of the inputs. -/
abbrev row (n : Fin 2) (i : Fin 1000) : Fin 19200 := chosen (in1 U) n i

/-- The gathered regressions. -/
theorem reg_at (n : Fin 2) (i : Fin 1000) (d : Fin 4) :
    (w4 U (Proc.devRef .tc main_v14) : S2x1000x4.Idx → EReal) (ix3 n i d) = flatReg (in2 U) n (row U n i) d := by
  rw [keep4 U (by decide +kernel), keep3 U (by decide +kernel)]
  exact (s1_at (w1 U) n i d (row U n i) (s0_row' U n i)).trans (s0_reg U n _ d)

/-- The gathered anchors. -/
theorem anchor_at (n : Fin 2) (i : Fin 1000) (d : Fin 4) :
    (w4 U (Proc.devRef .tc main_v16) : S2x1000x4.Idx → EReal) (ix3 n i d) = in0 U (ix3 n (row U n i) d) := by
  have h : (w3 U (Proc.devRef .tc main_v15) : S2x1000x1.Idx → BitVec 32) (ix3 n i 0) = BitVec.ofNat 32 (row U n i).val := by
    refine (s2_at (w2 U) n i).trans ?_
    rw [keep2 U (by decide +kernel)]
    exact s0_row U n i
  refine (s3_at (w3 U) n i d (row U n i) h).trans ?_
  show (w3 U (Proc.devRef .tc main_arg0) : S2x19200x4.Idx → EReal) _ = _
  rw [keep3 U (by decide +kernel), keep2 U (by decide +kernel), keep1 U (by decide +kernel)]

/-- The decoded boxes. -/
theorem box_at (n : Fin 2) (i : Fin 1000) (k : Fin 4) : boxOf (w6 U) (ix3 n i k) = bx U n i k := by
  refine (s5_at (w5 U) n i k).trans ?_
  rw [show sideOf (w5 U) ix0 = side from s4_side (w4 U), show zeroOf (w5 U) ix0 = 0 from s4_zero (w4 U)]
  have e := s4_at (w4 U) n i k
  rw [show (fun d => (w4 U (Proc.devRef .tc main_v16) : S2x1000x4.Idx → EReal) (ix3 n i d)) = fun d => in0 U (ix3 n (row U n i) d)
      from funext (anchor_at U n i),
    show (fun d => (w4 U (Proc.devRef .tc main_v14) : S2x1000x4.Idx → EReal) (ix3 n i d)) = fun d => flatReg (in2 U) n (row U n i) d
      from funext (reg_at U n i)] at e
  refine (congrArg (fun t => min side (max 0 t)) e).trans ?_
  fin_cases k <;> rfl

/-- The scores. -/
theorem score_at (n : Fin 2) (i : Fin 1000) : scoreOf (w8 U) (ix2 n i) = score (bx U n) (lo U n) i := by
  refine (s7_at (w7 U) n i).trans ?_
  have e1 := s6_at (w6 U) n i
  rw [show (fun (i : Fin 1000) d => boxOf (w6 U) (ix3 n i d)) = bx U n from funext fun i => funext fun d => box_at U n i d] at e1
  have e2 : (w7 U (Proc.devRef .tc main_v12) : S2x1000.Idx → EReal) (ix2 n i) = Ideal.logistic (lo U n i) := by
    rw [keep7 U (by decide +kernel), keep6 U (by decide +kernel), keep5 U (by decide +kernel), keep4 U (by decide +kernel),
      keep3 U (by decide +kernel), keep2 U (by decide +kernel)]
    exact s0_sig U n i
  have e3 : (w7 U (Proc.devRef .tc main_cst_11) : S_.Idx → EReal) ix0 = invalidScore := s6_invalid (w6 U)
  refine (congr (congrArg₂ Scalar.select e1 e2) e3).trans ?_
  unfold score
  by_cases h : Valid (bx U n) i
  · rw [if_pos h, decide_eq_true h]; rfl
  · rw [if_neg h, decide_eq_false h]; rfl

/-- The order by score. -/
theorem ord_at (n : Fin 2) (i : Fin 1000) :
    (w10 U (Proc.devRef .tc main_v81) : S2x1000.Idx → BitVec 32) (ix2 n i) = BitVec.ofNat 32 (ord (bx U n) (lo U n) i).val :=
  s9_at (w9 U) (fun n => score (bx U n) (lo U n)) (fun n i => (s8_at (w8 U) n i).trans (congrArg (fun t : EReal => -t) (score_at U n i))) n i

/-- The boxes in the order by score. -/
theorem sorted_box_at (n : Fin 2) (i : Fin 1000) (k : Fin 4) :
    (w12 U (Proc.devRef .tc main_v83) : S2x1000x4.Idx → EReal) (ix3 n i k) = bx U n (ord (bx U n) (lo U n) i) k := by
  refine (s11_at (w11 U) n i k (ord (bx U n) (lo U n) i) ((s10_at (w10 U) n i).trans (ord_at U n i))).trans ?_
  rw [keep11 U (by decide +kernel), keep10 U (by decide +kernel), keep9 U (by decide +kernel), keep8 U (by decide +kernel),
    keep7 U (by decide +kernel)]
  exact box_at U n _ k

/-- The scores in that order. -/
theorem sorted_score_at (n : Fin 2) (i : Fin 1000) :
    (w13 U (Proc.devRef .tc main_v84) : S2x1000.Idx → EReal) (ix2 n i) = score (bx U n) (lo U n) (ord (bx U n) (lo U n) i) := by
  refine (s12_at (w12 U) n i (ord (bx U n) (lo U n) i) ?_).trans ?_
  · rw [keep12 U (by decide +kernel), keep11 U (by decide +kernel)]
    exact ord_at U n i
  · rw [keep12 U (by decide +kernel), keep11 U (by decide +kernel), keep10 U (by decide +kernel), keep9 U (by decide +kernel)]
    exact score_at U n _

/-! ## The loop's entry -/

/-- At the loop's entry the overlaps are those of the boxes in order. -/
theorem entry_overlap (n : Fin 2) (p q : Fin 1000) :
    (w14 U (Proc.devRef .tc main_v124_0) : S2x1000x1000.Idx → EReal) (ix3 n p q)
      = overlap (bx U n (ord (bx U n) (lo U n) p)) (bx U n (ord (bx U n) (lo U n) q)) := by
  refine (s13_overlap (w13 U) n p q).trans ?_
  rw [keep13 U (by decide +kernel)]
  exact congrArg₂ overlap (funext fun d => sorted_box_at U n p d) (funext fun d => sorted_box_at U n q d)

/-- At the loop's entry the counter is zero. -/
theorem entry_count : w14 U (Proc.devRef .tc main_v124_3) = fun _ => BitVec.ofNat 32 0 := by
  funext i
  have e : i = (ix0 : S_.Idx) := funext fun a => a.elim0
  rw [e]
  exact s13_count (w13 U)

/-- What is suppressed when the loop has visited every place. -/
theorem loop_supp (n : Fin 2) (q : Fin 1000) :
    ((STEP^[1000] (w14 U)) (Proc.devRef .tc main_v124_4) : S2x1000.Idx → BitVec 1) (ix2 n q)
      = BitVec.ofBool (decide (Supp (bx U n) (lo U n) 1000 q)) :=
  iter_supp (w14 U) (bx U n) (lo U n) n (entry_count U) (s13_none (w13 U) n) (entry_overlap U n) (s13_iota (w13 U)) 1000 le_rfl q

end Cert.ReferenceIdeal.Hand

end
-- ==== Proof.ReferenceValue.lean ====
module
public import proofs.«01_k».proof.Proof.ReferenceEntry
public import proofs.«01_k».proof.Proof.TopK
public import Idealize.ShloMosaic.Lib.StableHlo.ReadAt
/-!
The reference's result at an index.
-/

@[expose] public section
set_option maxRecDepth 16384
noncomputable section
namespace Cert.ReferenceIdeal.Hand
open Idealize.ShloMosaic Idealize.ShloMosaic.TcCoe Idealize.SL.Sem
open Idealize.ShloMosaic.StableHlo
open Cert.ReferenceIdeal Cert.ReferenceIdeal.Gen Cert.ReferenceIdeal.Value
open Rpn

section Post
variable (P : Valuation τ sig (Elt Ideal))

/-! ## The stretches after the loop -/

/-- The bits of what is suppressed. -/
abbrev bitOf : S2x1000.Idx → BitVec 1 := P (Proc.devRef .tc main_v124_4)

/-- The kept bits are the suppressed bits negated. -/
theorem p14_at (n : Fin 2) (q : Fin 1000) :
    (after hostOps0_14 P (Proc.devRef .tc main_v125) : S2x1000.Idx → BitVec 1) (ix2 n q)
      = ~~~bitOf P (ix2 n q) := by
  after_reads_at

/-- The score of a suppressed box. -/
theorem p14_score : (after hostOps0_14 P (Proc.devRef .tc main_cst_18) : S_.Idx → EReal) ix0 = suppressedScore := by
  after_reads_at

/-- The masked score, by the kept bit. -/
theorem p15_at (n : Fin 2) (q : Fin 1000) :
    (after hostOps0_15 P (Proc.devRef .tc main_v126) : S2x1000.Idx → EReal) (ix2 n q)
      = Scalar.select ((P (Proc.devRef .tc main_v125) : S2x1000.Idx → BitVec 1) (ix2 n q))
          ((P (Proc.devRef .tc main_v84) : S2x1000.Idx → EReal) (ix2 n q)) ((P (Proc.devRef .tc main_cst_18) : S_.Idx → EReal) ix0) := by
  after_reads_at
  rfl

/-- The scores the second selection sees. -/
abbrev keptOf : S2x1000.Idx → EReal := P (Proc.devRef .tc main_v126)

/-- The values of the second selection. -/
theorem p16_val (n : Fin 2) (i : Fin 300) :
    (after hostOps0_16 P (Proc.devRef .tc main_values_19) : S2x300.Idx → EReal) (ix2 n i)
      = keptOf P (ix2 n (order (fun s : Fin 1000 => keptOf P (ix2 n s)) ⟨i.val, by omega⟩)) := by
  after_reads_at
  exact topK_val (keptOf P) sliceFits_S2x1000_S2x300 (by norm_num) n i

/-- The places of the second selection. -/
theorem p16_idx (n : Fin 2) (i : Fin 300) :
    (after hostOps0_16 P (Proc.devRef .tc main_v127) : S2x300x1.Idx → BitVec 32) (ix3 n i 0)
      = BitVec.ofNat 32 (order (fun s : Fin 1000 => keptOf P (ix2 n s)) ⟨i.val, by omega⟩).val := by
  after_reads_at
  exact topK_idx (keptOf P) sliceFits_S2x1000_S2x300 (by norm_num) n i

/-- The gather of the best boxes. -/
theorem p17_at (n : Fin 2) (i : Fin 300) (d : Fin 4) (r : Fin 1000)
    (h : (P (Proc.devRef .tc main_v127) : S2x300x1.Idx → BitVec 32) (ix3 n i 0) = BitVec.ofNat 32 r.val) :
    (after hostOps0_17 P (Proc.devRef .tc main_v128) : S2x300x4.Idx → EReal) (ix3 n i d)
      = (P (Proc.devRef .tc main_v83) : S2x1000x4.Idx → EReal) (ix3 n r d) := by
  after_reads_at
  refine gatherTop_at _ _ n i d r ?_
  pointwise
  rw [h]
  exact wrap_index _ 1000 (by omega)

/-- A result row's first four entries are the box. -/
theorem p18_box (n : Fin 2) (i : Fin 300) (k : Fin 5) (h : k.val < 4) :
    (after hostOps0_18 P (Proc.devRef .tc main_v130) : S2x300x5.Idx → EReal) (ix3 n i k)
      = (P (Proc.devRef .tc main_v128) : S2x300x4.Idx → EReal) (ix3 n i ⟨k.val, h⟩) := by
  obtain rfl | rfl | rfl | rfl : k = 0 ∨ k = 1 ∨ k = 2 ∨ k = 3 := by omega
  all_goals
    after_reads_at

/-- Its last entry is the score. -/
theorem p18_score (n : Fin 2) (i : Fin 300) :
    (after hostOps0_18 P (Proc.devRef .tc main_v130) : S2x300x5.Idx → EReal) (ix3 n i 4)
      = (P (Proc.devRef .tc main_values_19) : S2x300.Idx → EReal) (ix2 n i) := by
  after_reads_at

end Post

/-! ## The result -/

/-- What the first stretch after the loop writes. -/
theorem post_writes14 : ((hostOps0_14 (F := Ideal))).Forall fun op => op.writes ⊆ (([main_v125, main_cst_18] : List (Ref sig .tc)).map (Proc.devRef (τ := τ) .tc)).toFinset :=
  forall_writes_sub_of_map rfl

/-- What the stretches after the loop make of boxes, scores and bits. -/
theorem post_at (P : Valuation τ sig (Elt Ideal)) (n : Fin 2) (b : Fin 1000 → Fin 4 → EReal) (lg : Fin 1000 → EReal)
    (h4 : ∀ q, bitOf P (ix2 n q) = BitVec.ofBool (decide (Supp b lg 1000 q)))
    (hb : ∀ p d, (P (Proc.devRef .tc main_v83) : S2x1000x4.Idx → EReal) (ix3 n p d) = b (ord b lg p) d)
    (hs : ∀ p, (P (Proc.devRef .tc main_v84) : S2x1000.Idx → EReal) (ix2 n p) = score b lg (ord b lg p))
    (i : Fin 300) (k : Fin 5) :
    (afterL postI P (Proc.devRef .tc main_v130) : S2x300x5.Idx → EReal) (ix3 n i k) = result b lg ⟨i.val, by omega⟩ k := by
  simp only [postI, afterL_cons, afterL_nil]
  generalize e1 : after hostOps0_14 P = P1
  generalize e2 : after hostOps0_15 P1 = P2
  generalize e3 : after hostOps0_16 P2 = P3
  generalize e4 : after hostOps0_17 P3 = P4
  have hm : (fun q : Fin 1000 => keptOf P2 (ix2 n q)) = masked b lg := by
    funext q
    subst e2
    refine (p15_at P1 n q).trans ?_
    subst e1
    have a1 := (p14_at P n q).trans (congrArg (fun t : BitVec 1 => ~~~t) (h4 q))
    have a2 : (after hostOps0_14 P (Proc.devRef .tc main_v84) : S2x1000.Idx → EReal) (ix2 n q) = score b lg (ord b lg q) := by
      rw [after_of_writes_sub _ _ post_writes14 (by decide +kernel)]
      exact hs q
    refine (congr (congrArg₂ Scalar.select a1 a2) (p14_score P)).trans ?_
    unfold masked
    by_cases h : Supp b lg 1000 q
    · rw [if_pos h, decide_eq_true h]; rfl
    · rw [if_neg h, decide_eq_false h]; rfl
  have hk (p : Fin 1000) (d : Fin 4) : (P3 (Proc.devRef .tc main_v83) : S2x1000x4.Idx → EReal) (ix3 n p d) = b (ord b lg p) d := by
    rw [← hb p d]
    subst e3; subst e2; subst e1
    rw [after_of_writes_sub _ _ (forall_writes_sub_of_map (W := [main_values_19, main_indices_20, main_v127]) rfl) (by decide +kernel),
      after_of_writes_sub _ _ (forall_writes_sub_of_map (W := [main_call7_v0, main_call7_v1, main_v126]) rfl) (by decide +kernel),
      after_of_writes_sub _ _ post_writes14 (by decide +kernel)]
  have ht : (order (fun s : Fin 1000 => keptOf P2 (ix2 n s)) ⟨i.val, by omega⟩ : Fin 1000) = top b lg ⟨i.val, by omega⟩ := by
    rw [hm]; rfl
  have hi : (P3 (Proc.devRef .tc main_v127) : S2x300x1.Idx → BitVec 32) (ix3 n i 0) = BitVec.ofNat 32 (top b lg ⟨i.val, by omega⟩).val := by
    subst e3
    rw [← ht]
    exact p16_idx P2 n i
  unfold result
  by_cases h : k.val < 4
  · rw [dif_pos h]
    refine (p18_box P4 n i k h).trans ?_
    subst e4
    exact (p17_at P3 n i ⟨k.val, h⟩ _ hi).trans (hk _ _)
  · rw [dif_neg h, show k = 4 by omega]
    refine (p18_score P4 n i).trans ?_
    subst e4
    rw [after_of_writes_sub _ _ (forall_writes_sub_of_map (W := [main_call8_c, main_call8_v0, main_call8_v1, main_call8_c_0, main_call8_v2, main_call8_v3, main_call8_v4, main_v128]) rfl) (by decide +kernel)]
    subst e3
    refine (p16_val P2 n i).trans ?_
    rw [ht]
    exact congrFun hm _

/-- The reference program's result at an index. -/
theorem final_at (m : (ℓ : Loc nD τ sig) → Buf (Elt Ideal) ℓ) (c : Dev nD) (n : Fin 2) (i : Fin 300) (k : Fin 5) :
    (finalContents condOps preI bodyI postI 1000 m c (Proc.devRef .tc main_v130) : S2x300x5.Idx → EReal) (ix3 n i k)
      = proposals (in0 (launchContents m c)) (in1 (launchContents m c)) (in2 (launchContents m c)) n i k := by
  have he : entryContents preI m c = w14 (launchContents m c) := pre_eq _
  unfold finalContents
  refine post_at _ n (bx (launchContents m c) n) (lo (launchContents m c) n) (fun q => ?_) (fun p d => ?_) (fun p => ?_) i k
  · unfold bitOf
    rw [after_of_writes_sub _ _ condOps_writes (by decide +kernel)]
    have ha := atK_agree m c 1000 main_v124_4 (by decide +kernel)
    rw [he] at ha
    exact (congrFun ha (ix2 n q : S2x1000.Idx)).trans (loop_supp _ n q)
  · rw [loop_keep (by decide +kernel) (by decide +kernel), he, keep14 _ (by decide +kernel), keep13 _ (by decide +kernel)]
    exact sorted_box_at _ n p d
  · rw [loop_keep (by decide +kernel) (by decide +kernel), he, keep14 _ (by decide +kernel)]
    exact sorted_score_at _ n p

/-- Every weakly fair execution of the reference ends with the problem's result, and its arguments as they were. -/
theorem run_proposals (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v130)
        = (fun i : S2x300x5.Idx => proposals (m ((c.tc : Thread nD τ).loc main_arg0)) (m ((c.tc : Thread nD τ).loc main_arg1))
            (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ hr c => ⟨(hr c).1.trans (funext fun i => by
    have e : i = (ix3 (i 0) (i 1) (i 2) : S2x300x5.Idx) := by funext a; fin_cases a <;> rfl
    refine (congrArg (finalContents condOps preI bodyI postI 1000 m c (Proc.devRef .tc main_v130)) e).trans ?_
    exact final_at m c (i 0) (i 1) (i 2)), (hr c).2⟩) (run_value m ρ)

end Cert.ReferenceIdeal.Hand

end
-- ==== Proof.KernelNms.lean ====
/- The kernel's payloads read at an index: the overlaps, one trip of the suppression, the final places and the result. -/
module

public import proofs.«01_k».proof.Proof.KernelRead
public import Idealize.ShloMosaic.Lib.WordArith.Masks

@[expose] public section

set_option maxRecDepth 16384

noncomputable section

namespace Cert.KernelIdeal.Hand

open Idealize.ShloMosaic
open Cert.KernelIdeal Cert.KernelIdeal.Gen Rpn

/-! ## The overlaps and who suppresses whom -/

section Ordered
variable {v89 v111 v118 v131 v133 v138 v139 : FVec Ideal S1000x1 .f32} {b : Fin 1000 → Fin 4 → EReal} {lg : Fin 1000 → EReal}
variable (H : Columns v89 v111 v118 v131 v133 v138 v139 b lg) (hlg : ∀ i j, i ≤ j → lg j ≤ lg i)
include H hlg

/-- A sorted row holds the box at that place, by rows. -/
theorem sorted_box (p : Fin 1000) (k : Fin 4) (k' : Fin 6) (hk : k'.val = k.val) :
    k0_pay28 v89 v111 v118 v131 v133 v138 v139 (ix2 p k') = b (ord b lg p) k := by
  rw [show k' = ⟨k.val, by omega⟩ from Fin.ext hk, rows_apply H hlg, box_apply H]

/-- A sorted row holds the box at that place, by columns. -/
theorem sorted_box' (p : Fin 1000) (k : Fin 4) (k' : Fin 6) (hk : k'.val = k.val) :
    k0_pay29 (k0_pay26 v111 v118 v131 v133 v138 v139) (k0_pay27 v89 v111 v118 v131 v133 v138 v139)
      (constant S6x1000 .f32 0x00000000#32) (ix2 k' p) = b (ord b lg p) k := by
  rw [show k' = ⟨k.val, by omega⟩ from Fin.ext hk, cols_apply H hlg, box_apply H]

/-- A sorted row holds the score at that place. -/
theorem sorted_score (p : Fin 1000) :
    k0_pay28 v89 v111 v118 v131 v133 v138 v139 (ix2 p 4) = score b lg (ord b lg p) := by
  rw [rows_apply H hlg, score_apply H]

/-- A sorted column holds the validity at that place. -/
theorem sorted_flag (p : Fin 1000) :
    k0_pay35 (k0_pay26 v111 v118 v131 v133 v138 v139) (k0_pay27 v89 v111 v118 v131 v133 v138 v139)
      (constant S6x1000 .f32 0x00000000#32) (ix2 0 p) = ind (Valid b (ord b lg p)) := by
  have h : k0_pay35 (k0_pay26 v111 v118 v131 v133 v138 v139) (k0_pay27 v89 v111 v118 v131 v133 v138 v139)
      (constant S6x1000 .f32 0x00000000#32) (ix2 0 p)
      = k0_pay29 (k0_pay26 v111 v118 v131 v133 v138 v139) (k0_pay27 v89 v111 v118 v131 v133 v138 v139)
      (constant S6x1000 .f32 0x00000000#32) (ix2 5 p) := by pointwise [k0_pay35]
  rw [h, cols_apply H hlg, flag_apply H]

/-- The kernel's ratio at two places is the overlap of the two boxes. -/
theorem overlap_apply (p q : Fin 1000) :
    k0_pay36 (k0_pay26 v111 v118 v131 v133 v138 v139) (k0_pay27 v89 v111 v118 v131 v133 v138 v139)
      (k0_pay28 v89 v111 v118 v131 v133 v138 v139) (constant S6x1000 .f32 0x00000000#32) (ix2 p q)
      = overlap (b (ord b lg p)) (b (ord b lg q)) := by
  pointwise [k0_pay36, k0_pay30, k0_pay31, k0_pay32, k0_pay33]
  rw [sorted_box H hlg p 0 0 rfl, sorted_box H hlg p 1 1 rfl, sorted_box H hlg p 2 2 rfl, sorted_box H hlg p 3 3 rfl,
    sorted_box' H hlg q 0 0 rfl, sorted_box' H hlg q 1 1 rfl, sorted_box' H hlg q 2 2 rfl, sorted_box' H hlg q 3 3 rfl]
  rfl

/-- The kernel's table of who suppresses whom. -/
theorem hits_apply (p q : Fin 1000) :
    k0_pay37 (iota .tc S1000x1000 32 [1] iota_S1000x1000_d1_w32)
      (k0_pay36 (k0_pay26 v111 v118 v131 v133 v138 v139) (k0_pay27 v89 v111 v118 v131 v133 v138 v139)
      (k0_pay28 v89 v111 v118 v131 v133 v138 v139) (constant S6x1000 .f32 0x00000000#32))
      (iota .tc S1000x1000 32 [0] iota_S1000x1000_d0_w32) (ix2 p q) = ind (Hits b lg p q) := by
  pointwise [k0_pay37]
  rw [overlap_apply H hlg, sgt_small (show (1000 : ℕ) ≤ 2 ^ 31 by norm_num), and_ofBool, float_bool]
  exact ind_congr (by simp [Hits])

end Ordered

/-! ## The loop -/

/-- The loop makes 1000 trips. -/
theorem trips_eq : k0_t1_loop.trips = 1000 := by decide +kernel

/-- The loop variable at trip `k` is `k`. -/
theorem iv_eq (k : ℕ) (hk : k < 1000) : Scf.iv 0#32 1#32 k = BitVec.ofNat 32 k := by
  apply BitVec.eq_of_toNat_eq
  rw [WordArith.toNat_iv_zero_one _ (by omega), BitVec.toNat_ofNat]
  omega

/-- The greater of two indicators is the indicator of the disjunction. -/
theorem max_ind (P Q : Prop) [Decidable P] [Decidable Q] : max (ind P) (ind Q) = ind (P ∨ Q) := by
  by_cases hp : P
  · rw [ind_true hp, ind_true (Or.inl hp)]
    refine max_eq_left ?_
    by_cases hq : Q
    · rw [ind_true hq]
    · rw [ind_false hq]; exact zero_le_one
  · rw [ind_false hp]
    by_cases hq : Q
    · rw [ind_true hq, ind_true (Or.inr hq)]; exact max_eq_right zero_le_one
    · rw [ind_false hq, ind_false (by tauto)]; exact max_self _

section Loop
variable {b : Fin 1000 → Fin 4 → EReal} {lg : Fin 1000 → EReal}

/-- No place is suppressed at the start. -/
theorem start_apply (q : Fin 1000) : k0_pay38 (F := Ideal) (ix2 0 q) = ind (Supp b lg 0 q) := by
  rw [ind_false (by simp [Supp])]
  pointwise [k0_pay38]

/-- A trip visits place `k`: if it is not suppressed, what it hits is from now on. -/
theorem trip_apply (k : Fin k0_t1_loop.trips) (acc row : FVec Ideal S1x1000 .f32) (hk : k.val < 1000)
    (hacc : ∀ q : Fin 1000, acc (ix2 0 q) = ind (Supp b lg k.val q))
    (hrow : ∀ q : Fin 1000, row (ix2 0 q) = ind (Hits b lg ⟨k.val, hk⟩ q)) (q : Fin 1000) :
    k0_pay39 (iota .tc S1x1000 32 [1] iota_S1x1000_d1_w32) k acc row (ix2 0 q) = ind (Supp b lg (k.val + 1) q) := by
  pointwise [k0_pay39]
  have h : ∀ x : Fin 1000, Scalar.select (IntOp.cmpi CmpIPredicate.eq (BitVec.ofNat 32 x.val) (Scf.iv 0#32 1#32 k.val))
      (acc (ix2 0 x)) (0 : EReal) = ind (x = ⟨k.val, hk⟩) * ind (Supp b lg k.val x) := by
    intro x
    rw [iv_eq _ hk, hacc]
    have he : (BitVec.ofNat 32 x.val = BitVec.ofNat 32 k.val) ↔ x = ⟨k.val, hk⟩ := by
      rw [ofNat_inj (by omega) (by omega), Fin.ext_iff]
    by_cases hx : x = ⟨k.val, hk⟩
    · rw [ind_true hx, one_mul]
      simp [Scalar.select, IntOp.cmpi, he.mpr hx]
    · rw [ind_false hx, zero_mul]
      have hne := fun h' => hx (he.mp h')
      have hb : (BitVec.ofNat 32 x.val == BitVec.ofNat 32 k.val) = false := beq_eq_false_iff_ne.mpr hne
      simp [Scalar.select, IntOp.cmpi, hb]
  simp only [h, Finset.univ_unique, Finset.sum_singleton]
  rw [sum_pick _ (⟨k.val, hk⟩ : Fin 1000) (fun _ => Iff.rfl), one_sub_ind, hacc, hrow, ind_mul_ind, max_ind]
  refine ind_congr ?_
  simp only [Supp]
  refine or_congr_right ⟨fun h => ⟨hk, h⟩, fun ⟨_, h⟩ => h⟩

end Loop

/-! ## The final places -/

section Final
variable (b : Fin 1000 → Fin 4 → EReal) (lg : Fin 1000 → EReal)

/-- The places kept with a valid box … -/
abbrev KeptValid (q : Fin 1000) : Prop := ¬Supp b lg 1000 q ∧ Valid b (ord b lg q)
/-- … and those kept with one that is not. -/
abbrev KeptInvalid (q : Fin 1000) : Prop := ¬Supp b lg 1000 q ∧ ¬Valid b (ord b lg q)

variable {b lg}
variable (v197 w : FVec Ideal S1x1000 .f32) (hv : ∀ q : Fin 1000, v197 (ix2 0 q) = ind (Valid b (ord b lg q)))
  (hw : ∀ q : Fin 1000, w (ix2 0 q) = ind (Supp b lg 1000 q))
include hw

/-- The kept row says what is not suppressed. -/
theorem keep_apply (q : Fin 1000) : k0_pay40 w (ix2 0 q) = ind (¬Supp b lg 1000 q) := by
  pointwise [k0_pay40]
  rw [hw, one_sub_ind]

/-- The triangle matrix says which place comes first. -/
theorem tri_apply (j q : Fin 1000) : k0_pay43 (F := Ideal) (ix2 j q) = ind (j ≤ q) := by
  pointwise [k0_pay43]
  exact float_sle (by norm_num) j q

/-- The third count is of the suppressed places so far. -/
theorem countC_apply (q : Fin 1000) : k0_pay44 w (ix2 0 q) = upTo (Supp b lg 1000) q := by
  pointwise [k0_pay44]
  simp only [hw, tri_apply w hw]
  exact Finset.sum_congr rfl fun x _ => mul_comm _ _

include hv

/-- The first row says what is kept and valid. -/
theorem keptValid_apply (q : Fin 1000) : k0_pay41 v197 w (ix2 0 q) = ind (KeptValid b lg q) := by
  pointwise [k0_pay41]
  rw [keep_apply w hw, hv, ind_mul_ind]

/-- The second row says what is kept and invalid. -/
theorem keptInvalid_apply (q : Fin 1000) : k0_pay42 v197 w (ix2 0 q) = ind (KeptInvalid b lg q) := by
  pointwise [k0_pay42]
  rw [keep_apply w hw, hv, one_sub_ind, ind_mul_ind]

/-- The first total counts what is kept and valid. -/
theorem totalA_apply : k0_pay45 v197 w = ∑ q, ind (KeptValid b lg q) := by
  pointwise [k0_pay45]
  simp only [keptValid_apply v197 w hv hw, Finset.univ_unique, Finset.sum_singleton]

/-- The second total counts what is kept and invalid. -/
theorem totalB_apply : k0_pay46 v197 w = ∑ q, ind (KeptInvalid b lg q) := by
  pointwise [k0_pay46]
  simp only [keptInvalid_apply v197 w hv hw, Finset.univ_unique, Finset.sum_singleton]

/-- The place of a kept valid box among those, and zero elsewhere. -/
theorem placeA_apply (q : Fin 1000) :
    k0_pay47 v197 w (ix2 0 q) = ind (KeptValid b lg q) * (upTo (KeptValid b lg) q - 1) := by
  pointwise [k0_pay47]
  simp only [keptValid_apply v197 w hv hw, tri_apply w hw]
  rw [show (∑ x, ind (KeptValid b lg x) * ind (x ≤ q)) = upTo (KeptValid b lg) q from
    Finset.sum_congr rfl fun x _ => mul_comm _ _]

/-- The place of a kept invalid box, after the kept valid ones, and zero elsewhere. -/
theorem placeB_apply (q : Fin 1000) :
    k0_pay48 v197 w (ix2 0 q)
      = ind (KeptInvalid b lg q) * ((∑ j, ind (KeptValid b lg j)) + upTo (KeptInvalid b lg) q - 1) := by
  pointwise [k0_pay48]
  simp only [keptInvalid_apply v197 w hv hw, tri_apply w hw, totalA_apply v197 w hv hw]
  rw [show (∑ x, ind (KeptInvalid b lg x) * ind (x ≤ q)) = upTo (KeptInvalid b lg) q from
    Finset.sum_congr rfl fun x _ => mul_comm _ _]

/-- The kernel's place of `p` is place `r` of the result exactly if `p` is the `r`-th best. -/
theorem final_place (p : Fin 1000) (r : Fin 1000) :
    FloatOps.sitofp (F := Ideal) .f32 (BitVec.setWidth 32 (IntOp.cmpi CmpIPredicate.eq
      (FloatOps.fptosi (F := Ideal) (φ := .f32) 32
        (k0_pay47 v197 w (ix2 0 p) + k0_pay48 v197 w (ix2 0 p)
          + w (ix2 0 p) * (k0_pay45 v197 w + k0_pay46 v197 w + k0_pay44 w (ix2 0 p) - 1)))
      (BitVec.ofNat 32 r.val))) = ind (p = top b lg r) := by
  rw [placeA_apply v197 w hv hw, placeB_apply v197 w hv hw, hw, totalA_apply v197 w hv hw, totalB_apply v197 w hv hw,
    countC_apply w hw, rank_three (KeptValid b lg) (KeptInvalid b lg) (Supp b lg 1000) (cls3 b lg)]
  · rw [show FloatOps.fptosi (F := Ideal) (φ := .f32) 32 (nat (rank (cls3 b lg) p)) = _ from
      fptosi_nat _ (lt_trans (rank_lt _ p) (by norm_num)), float_eq]
    refine ind_congr ?_
    rw [ofNat_inj (lt_trans (rank_lt _ p) (by norm_num)) (lt_trans r.isLt (by norm_num))]
    exact rank_cls3_iff b lg p r
  · intro j
    by_cases h1 : Supp b lg 1000 j <;> by_cases h2 : Valid b (ord b lg j) <;> simp [cls3, KeptValid, KeptInvalid, h1, h2]
  · intro j
    by_cases h1 : Supp b lg 1000 j <;> by_cases h2 : Valid b (ord b lg j) <;> simp [cls3, KeptValid, KeptInvalid, h1, h2]
  · intro j
    by_cases h1 : Supp b lg 1000 j <;> by_cases h2 : Valid b (ord b lg j) <;> simp [cls3, KeptValid, KeptInvalid, h1, h2]
  · intro j
    by_cases h1 : Supp b lg 1000 j <;> by_cases h2 : Valid b (ord b lg j) <;> simp [cls3, KeptValid, KeptInvalid, h1, h2]

/-- The kernel's result: the rows of the 300 best. -/
theorem best_apply (v188 v189 v190 v191 v192 : FVec Ideal S1000x1 .f32)
    (h0 : ∀ p : Fin 1000, v188 (ix2 p 0) = b (ord b lg p) 0) (h1 : ∀ p : Fin 1000, v189 (ix2 p 0) = b (ord b lg p) 1)
    (h2 : ∀ p : Fin 1000, v190 (ix2 p 0) = b (ord b lg p) 2) (h3 : ∀ p : Fin 1000, v191 (ix2 p 0) = b (ord b lg p) 3)
    (h4 : ∀ p : Fin 1000, v192 (ix2 p 0) = score b lg (ord b lg p)) (r : Fin 300) (k : Fin 5) :
    k0_pay1 v188 v189 v190 v191 v192 w (k0_pay40 w) (k0_pay44 w) (k0_pay45 v197 w) (k0_pay46 v197 w) (k0_pay47 v197 w)
      (k0_pay48 v197 w) (ix3 0 r k) = result b lg ⟨r.val, by omega⟩ k := by
  have hp := fun p => final_place v197 w hv hw p ⟨r.val, by omega⟩
  match k with
  | 0 =>
    pointwise [k0_pay1]
    simp only [hp, h0]
    exact sum_pick _ _ (fun _ => Iff.rfl) _
  | 1 =>
    pointwise [k0_pay1]
    simp only [hp, h1]
    exact sum_pick _ _ (fun _ => Iff.rfl) _
  | 2 =>
    pointwise [k0_pay1]
    simp only [hp, h2]
    exact sum_pick _ _ (fun _ => Iff.rfl) _
  | 3 =>
    pointwise [k0_pay1]
    simp only [hp, h3]
    exact sum_pick _ _ (fun _ => Iff.rfl) _
  | 4 =>
    pointwise [k0_pay1]
    have hk : ∀ x : Fin 1000, ∑ y : Fin 1000, ind (BitVec.ofNat 32 x.val = BitVec.ofNat 32 y.val) * ind (¬Supp b lg 1000 y)
        = ind (¬Supp b lg 1000 x) := fun x => sum_pick _ x (fun y => by
          rw [ofNat_inj (by omega) (by omega), Fin.ext_iff]; exact eq_comm) _
    simp only [hp, h4, keep_apply w hw, float_eq, hk, ind_pos]
    rw [sum_pick _ _ (fun _ => Iff.rfl)]
    unfold result masked
    by_cases h : Supp b lg 1000 (top b lg ⟨r.val, by omega⟩) <;> simp [h]

end Final

end Cert.KernelIdeal.Hand

end
-- ==== Proof.KernelBlock.lean ====
/- What a point of the grid leaves in its output block: the five columns of the 300 best boxes of the point's image. -/
module

public import proofs.«01_k».proof.Proof.KernelNms
public import proofs.«01_k».proof.Proof.Gen.KernelIdeal.Value
public import Idealize.ShloMosaic.Lib.VecWindow

@[expose] public section

set_option maxRecDepth 16384

noncomputable section

namespace Cert.KernelIdeal.Hand

open Idealize.ShloMosaic Idealize.ShloMosaic.TcCoe
open Cert.KernelIdeal Cert.KernelIdeal.Gen Rpn

/-! ## The block's columns -/

section Columns
variable (x0 : Vec Ideal S1x19200x8 .f32) (x1 : Vec Ideal S1x1000x1 .i32) (x2 : Vec Ideal S1x1000x1 .f32)

/-- The chosen anchors. -/
def anchorCols : FVec Ideal S1000x4 .f32 :=
  k0_pay10 (k0_pay2 x0) (k0_pay3 x1) (k0_pay5 x0 x1) (k0_pay6 x0) k0_pay7 (k0_pay8 x1)
/-- Their regressions. -/
def regCols : FVec Ideal S1000x4 .f32 :=
  k0_pay11 (k0_pay2 x0) (k0_pay3 x1) (k0_pay5 x0 x1) (k0_pay6 x0) k0_pay7 (k0_pay8 x1)
/-- The first extent of the chosen anchors. -/
def extentCol : FVec Ideal S1000x1 .f32 :=
  k0_pay13 (k0_pay2 x0) (k0_pay3 x1) (k0_pay5 x0 x1) (k0_pay6 x0) k0_pay7 (k0_pay8 x1)

variable (I : Fin 1000 → Fin 19200) (hI : ∀ i, x1 (ix3 0 i 0) = BitVec.ofNat 32 (I i).val)
include hI

/-- The gathered anchor columns at an index. -/
theorem anchorCols_apply (i : Fin 1000) (d : Fin 4) :
    anchorCols x0 x1 (ix2 i d) = x0 (ix3 0 (I i) ⟨d.val, by omega⟩) := by
  rw [← gathered x0 x1 I hI]
  unfold anchorCols
  pointwise [k0_pay10]

/-- The gathered regression columns at an index. -/
theorem regCols_apply (i : Fin 1000) (d : Fin 4) :
    regCols x0 x1 (ix2 i d) = x0 (ix3 0 (I i) ⟨4 + d.val, by omega⟩) := by
  rw [← gathered x0 x1 I hI]
  unfold regCols
  pointwise [k0_pay11]

/-- The first extent column is the difference of the two anchor ends. -/
theorem extentCol_apply (i : Fin 1000) :
    extentCol x0 x1 (ix2 i 0) = anchorCols x0 x1 (ix2 i 2) - anchorCols x0 x1 (ix2 i 0) := by
  unfold extentCol anchorCols
  pointwise [k0_pay13]

/-- The kernel's columns are the ends, flags and scores of the decoded boxes. -/
theorem columns :
    Columns (k0_pay12 (k0_pay4 x2)) (k0_pay16 (anchorCols x0 x1) (regCols x0 x1) (extentCol x0 x1))
      (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22
      (boxes (fun i d => x0 (ix3 0 (I i) ⟨d.val, by omega⟩)) (fun i d => x0 (ix3 0 (I i) ⟨4 + d.val, by omega⟩)))
      (fun i => x2 (ix3 0 i 0)) where
  low0 i := by
    rw [low0_apply _ _ _ _ (extentCol_apply x0 x1 I hI i)]
    simp only [anchorCols_apply x0 x1 I hI, regCols_apply x0 x1 I hI]; rfl
  low1 i := by
    rw [low1_apply]
    simp only [anchorCols_apply x0 x1 I hI, regCols_apply x0 x1 I hI]; rfl
  high0 i := by
    rw [high0_apply _ _ _ _ (extentCol_apply x0 x1 I hI i)]
    simp only [anchorCols_apply x0 x1 I hI, regCols_apply x0 x1 I hI]; rfl
  high1 i := by
    rw [high1_apply]
    simp only [anchorCols_apply x0 x1 I hI, regCols_apply x0 x1 I hI]; rfl
  logit i := by pointwise [k0_pay12, k0_pay4]

end Columns

/-! ## The run's pieces -/

section Run
variable (c : Dev nD) (i : grid0.Coords) (arg1 : Memref sig .tc .vmem S1x19200x8 .f32) (harg1 : arg1.IsWhole)
  (arg2 : Memref sig .tc .vmem S1x1000x1 .i32) (harg2 : arg2.IsWhole)
  (arg3 : Memref sig .tc .vmem S1x1000x1 .f32) (harg3 : arg3.IsWhole)
  (arg4 : Memref sig .tc .vmem S1x300x5 .f32) (harg4 : arg4.IsWhole)
  (arg5 : Memref sig .tc .vmem S1000x1000 .f32) (harg5 : arg5.IsWhole)

/-- The carried value after `k` trips over a table of who suppresses whom: the places suppressed so far. -/
theorem state_apply {b : Fin 1000 → Fin 4 → EReal} {lg : Fin 1000 → EReal} (v180 : IVec S1000x1000 32)
    (v197 : FVec Ideal S1x1000 .f32) (v237 : FVec Ideal S1000x1000 .f32) (v239 : IVec S1000x1000 32)
    (X : BufTy.Contents (Elt Ideal) arg5.view.ty)
    (hX : ∀ p q : Fin 1000, arg5.view.read (Elt Ideal) X (ix2 p q) = ind (Hits b lg p q)) :
    ∀ k : ℕ, k ≤ 1000 → ∀ q : Fin 1000,
      st_k0_t1 Variants.none c none i arg1 harg1 arg2 harg2 arg3 harg3 arg4 harg4 arg5 harg5 v180 v197 v237
        (iota .tc S1x1000 32 [1] iota_S1x1000_d1_w32) v239 X k0_pay38 k (ix2 0 q) = ind (Supp b lg k q) := by
  intro k
  induction k with
  | zero => intro _ q; exact start_apply q
  | succ k ih =>
    intro hk q
    have hk' : k < k0_t1_loop.trips := by rw [trips_eq]; omega
    rw [st_k0_t1_succ (F := Ideal) Variants.none c none i arg1 harg1 arg2 harg2 arg3 harg3 arg4 harg4 arg5 harg5 v180 v197 v237
      _ v239 X k0_pay38 ⟨k, hk'⟩]
    unfold tripR_k0_t1 trip_k0_t1
    refine trip_apply ⟨k, hk'⟩ _ _ (by show k < 1000; omega) (ih (by omega)) (fun q => ?_) q
    rw [View.readAt_apply, ← hX]
    congr 1
    have e := k0_off1_eq ⟨k, hk'⟩
    funext a
    apply Fin.ext
    match a with
    | ⟨0, _⟩ =>
      show k0_off1 ⟨k, hk'⟩ 0 + 1 * 0 = k
      rw [e]; rfl
    | ⟨1, _⟩ =>
      show k0_off1 ⟨k, hk'⟩ 1 + 1 * q.val = q.val
      rw [e]; simp

variable (x0 : Vec Ideal S1x19200x8 .f32) (x1 : Vec Ideal S1x1000x1 .i32) (x2 : Vec Ideal S1x1000x1 .f32)

/-- The whole-window load of the first block is the block. -/
theorem load0 (inb) : View.readAt (Elt Ideal) arg1.view (Rect.unit ![0, 0, 0] S1x19200x8.size inb).toLoadRect (harg1.unread x0) = x0 := by
  rw [View.readAt_full, harg1.read_unread]

/-- The whole-window load of the second block is the block. -/
theorem load1 (inb) : View.readAt (Elt Ideal) arg2.view (Rect.unit ![0, 0, 0] S1x1000x1.size inb).toLoadRect (harg2.unread x1) = x1 := by
  rw [View.readAt_full, harg2.read_unread]

/-- The whole-window load of the third block is the block. -/
theorem load2 (inb) : View.readAt (Elt Ideal) arg3.view (Rect.unit ![0, 0, 0] S1x1000x1.size inb).toLoadRect (harg3.unread x2) = x2 := by
  rw [View.readAt_full, harg3.read_unread]

/-! The values that the run computes, one by one. -/

/-- A value of the kernel's run, as its payload on the values before it. -/
theorem q0 : kernelRun0_A.sl.r c arg1 harg1 x0 = k0_pay2 x0 := by
  delta kernelRun0_A.sl.r
  rw [load0]

/-- A value of the kernel's run, as its payload on the values before it. -/
theorem q1 : kernelRun0_A.sl.r_1 c arg2 harg2 x1 = k0_pay3 x1 := by
  delta kernelRun0_A.sl.r_1
  rw [load1]

/-- A value of the kernel's run, as its payload on the values before it. -/
theorem q2 : kernelRun0_A.sl.r_2 c arg3 harg3 x2 = k0_pay4 x2 := by
  delta kernelRun0_A.sl.r_2
  rw [load2]

/-- A value of the kernel's run, as its payload on the values before it. -/
theorem q3 : kernelRun0_A.sl.r_3 c arg1 harg1 arg2 harg2 x0 x1 = k0_pay5 x0 x1 := by
  delta kernelRun0_A.sl.r_3
  rw [load0, load1]

/-- A value of the kernel's run, as its payload on the values before it. -/
theorem q4 : kernelRun0_A.sl.r_4 c arg1 harg1 x0 = k0_pay6 x0 := by
  delta kernelRun0_A.sl.r_4
  rw [load0]

/-- A value of the kernel's run, as its payload on the values before it. -/
theorem q5 : kernelRun0_A.sl.r_5 c arg2 harg2 x1 = k0_pay8 x1 := by
  delta kernelRun0_A.sl.r_5
  rw [load1]

/-- A value of the kernel's run, as its payload on the values before it. -/
theorem q6 : kernelRun0_A.sl.r_6 c arg1 harg1 arg2 harg2 x0 x1 = anchorCols x0 x1 := by
  delta kernelRun0_A.sl.r_6
  rw [q0, q1, q3, q4, q5]
  rfl

/-- A value of the kernel's run, as its payload on the values before it. -/
theorem q7 : kernelRun0_A.sl.r_7 c arg1 harg1 arg2 harg2 x0 x1 = regCols x0 x1 := by
  delta kernelRun0_A.sl.r_7
  rw [q0, q1, q3, q4, q5]
  rfl

/-- A value of the kernel's run, as its payload on the values before it. -/
theorem q8 : kernelRun0_A.sl.r_8 c arg3 harg3 x2 = k0_pay12 (k0_pay4 x2) := by
  delta kernelRun0_A.sl.r_8
  rw [q2]

/-- A value of the kernel's run, as its payload on the values before it. -/
theorem q9 : kernelRun0_A.sl.r_9 c arg1 harg1 arg2 harg2 x0 x1 = extentCol x0 x1 := by
  delta kernelRun0_A.sl.r_9
  rw [q0, q1, q3, q4, q5]
  rfl

/-- A value of the kernel's run, as its payload on the values before it. -/
theorem q10 : kernelRun0_A.sl.r_10 c arg1 harg1 arg2 harg2 x0 x1 = k0_pay16 (anchorCols x0 x1) (regCols x0 x1) (extentCol x0 x1) := by
  delta kernelRun0_A.sl.r_10
  rw [q6, q7, q9]

/-- A value of the kernel's run, as its payload on the values before it. -/
theorem q11 : kernelRun0_A.sl.r_11 c arg1 harg1 arg2 harg2 x0 x1 = k0_pay17 (anchorCols x0 x1) (regCols x0 x1) (extentCol x0 x1) := by
  delta kernelRun0_A.sl.r_11
  rw [q6, q7, q9]

/-- A value of the kernel's run, as its payload on the values before it. -/
theorem q12 : kernelRun0_A.sl.r_12 c arg1 harg1 arg2 harg2 x0 x1 = k0_pay19 (anchorCols x0 x1) (regCols x0 x1) := by
  delta kernelRun0_A.sl.r_12
  rw [q6, q7]

/-- A value of the kernel's run, as its payload on the values before it. -/
theorem q13 : kernelRun0_A.sl.r_13 c arg1 harg1 arg2 harg2 x0 x1 = k0_pay20 (anchorCols x0 x1) (regCols x0 x1) := by
  delta kernelRun0_A.sl.r_13
  rw [q6, q7]

/-- A value of the kernel's run, as its payload on the values before it. -/
theorem q14 : kernelRun0_A.sl.r_14 c arg1 harg1 arg2 harg2 x0 x1 = k0_pay21 (anchorCols x0 x1) (regCols x0 x1) := by
  delta kernelRun0_A.sl.r_14
  rw [q6, q7]

/-- A value of the kernel's run, as its payload on the values before it. -/
theorem q15 : kernelRun0_A.sl.r_15 c arg1 harg1 arg2 harg2 x0 x1
    = k0_pay26 (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22 := by
  delta kernelRun0_A.sl.r_15
  rw [q10, q11, q12, q13, q14]

/-- A value of the kernel's run, as its payload on the values before it. -/
theorem q16 : kernelRun0_A.sl.r_16 c arg1 harg1 arg2 harg2 arg3 harg3 x0 x1 x2
    = k0_pay27 (k0_pay12 (k0_pay4 x2)) (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22 := by
  delta kernelRun0_A.sl.r_16
  rw [q8, q10, q11, q12, q13, q14]

/-- A value of the kernel's run, as its payload on the values before it. -/
theorem q17 : kernelRun0_A.sl.r_17 c arg1 harg1 arg2 harg2 arg3 harg3 x0 x1 x2
    = k0_pay28 (k0_pay12 (k0_pay4 x2)) (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22 := by
  delta kernelRun0_A.sl.r_17
  rw [q8, q10, q11, q12, q13, q14]

/-- A value of the kernel's run, as its payload on the values before it. -/
theorem q23 : kernelRun0_A.sl.r_23 c arg1 harg1 arg2 harg2 arg3 harg3 x0 x1 x2
    = k0_pay35 (k0_pay26 (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22)
      (k0_pay27 (k0_pay12 (k0_pay4 x2)) (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22) (constant S6x1000 .f32 0x00000000#32) := by
  delta kernelRun0_A.sl.r_23
  rw [q15, q16]
  rfl

/-- A value of the kernel's run, as its payload on the values before it. -/
theorem q24 : kernelRun0_A.sl.r_24 c arg1 harg1 arg2 harg2 arg3 harg3 x0 x1 x2
    = k0_pay36 (k0_pay26 (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22)
      (k0_pay27 (k0_pay12 (k0_pay4 x2)) (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22)
      (k0_pay28 (k0_pay12 (k0_pay4 x2)) (k0_pay16 (anchorCols x0 x1) (regCols x0 x1) (extentCol x0 x1)) (k0_pay17 (anchorCols x0 x1) (regCols x0 x1) (extentCol x0 x1)) (k0_pay19 (anchorCols x0 x1) (regCols x0 x1))
      (k0_pay20 (anchorCols x0 x1) (regCols x0 x1)) (k0_pay21 (anchorCols x0 x1) (regCols x0 x1)) k0_pay22) (constant S6x1000 .f32 0x00000000#32) := by
  delta kernelRun0_A.sl.r_24
  rw [q15, q16, q17]
  rfl

/-- The table of who suppresses whom, as the run leaves it in the scratch memory. -/
theorem table_apply {b : Fin 1000 → Fin 4 → EReal} {lg : Fin 1000 → EReal} (v237 : FVec Ideal S1000x1000 .f32)
    (h : ∀ p q : Fin 1000, k0_pay37 (iota .tc S1000x1000 32 [1] iota_S1000x1000_d1_w32) v237
      (iota .tc S1000x1000 32 [0] iota_S1000x1000_d0_w32) (ix2 p q) = ind (Hits b lg p q)) (p q : Fin 1000) (inb) :
    arg5.view.read (Elt Ideal) (arg5.view.writes (Elt Ideal) arg5.view.junk
      [⟨Rect.unit (s := S1000x1000) ![0, 0] S1000x1000.size inb,
        k0_pay37 (iota .tc S1000x1000 32 [1] iota_S1000x1000_d1_w32) v237
          (iota .tc S1000x1000 32 [0] iota_S1000x1000_d0_w32)⟩]) (ix2 p q) = ind (Hits b lg p q) := by
  have h' := View.read_writes_cons_emb (v := arg5.view) (f := arg5.view.junk) (Val := Elt Ideal)
    (Rect.unit (s := S1000x1000) ![0, 0] S1000x1000.size inb)
    (k0_pay37 (iota .tc S1000x1000 32 [1] iota_S1000x1000_d1_w32) v237
          (iota .tc S1000x1000 32 [0] iota_S1000x1000_d0_w32)) [] (ix2 p q)
  rw [Rect.emb_unit_full] at h'
  exact h'.trans (h p q)

/-- A block stored whole is read back. -/
theorem block_read (w : S1x300x5.Idx → EReal) (r : Fin 300) (k : Fin 5) :
    View.read (Elt Ideal) VO0_3 (VO0_3.writes (Elt Ideal) VO0_3.junk
      [⟨Rect.unit (s := S1x300x5) ![0, 0, 0] S1x300x5.size inb_S1x300x5_S1x300x5_0_0_0, w⟩]) (ix3 0 r k) = w (ix3 0 r k) := by
  have h := View.read_writes_cons_emb (v := VO0_3) (f := VO0_3.junk) (Val := Elt Ideal)
    (Rect.unit (s := S1x300x5) ![0, 0, 0] S1x300x5.size inb_S1x300x5_S1x300x5_0_0_0) w [] (ix3 0 r k)
  rwa [Rect.emb_unit_full] at h

/-- The point's block, in terms of the image's chosen anchors, regressions and logits. -/
theorem out_apply (I : Fin 1000 → Fin 19200) (hI : ∀ i, x1 (ix3 0 i 0) = BitVec.ofNat 32 (I i).val)
    (hlg : ∀ i j : Fin 1000, i ≤ j → x2 (ix3 0 j 0) ≤ x2 (ix3 0 i 0)) (r : Fin 300) (k : Fin 5) :
    out0_A_3 c i arg1 harg1 arg2 harg2 arg3 harg3 arg4 harg4 arg5 harg5 x0 x1 x2 (ix3 0 r k)
      = result (boxes (fun i d => x0 (ix3 0 (I i) ⟨d.val, by omega⟩)) (fun i d => x0 (ix3 0 (I i) ⟨4 + d.val, by omega⟩)))
          (fun i => x2 (ix3 0 i 0)) ⟨r.val, by omega⟩ k := by
  have H := columns x0 x1 x2 I hI
  have hw : ∀ q : Fin 1000, kernelRun0_A.sl.r_25 c i arg1 harg1 arg2 harg2 arg3 harg3 arg4 harg4 arg5 harg5 x0 x1 x2 (ix2 0 q)
      = ind (Supp (boxes (fun i d => x0 (ix3 0 (I i) ⟨d.val, by omega⟩)) (fun i d => x0 (ix3 0 (I i) ⟨4 + d.val, by omega⟩)))
          (fun i => x2 (ix3 0 i 0)) 1000 q) := by
    intro q
    have ht : Scf.trips k0_t1_loop.lb k0_t1_loop.ub k0_t1_loop.st = 1000 := trips_eq
    delta kernelRun0_A.sl.r_25
    rw [ht]
    refine state_apply c i arg1 harg1 arg2 harg2 arg3 harg3 arg4 harg4 arg5 harg5 _ _ _ _ _ (fun p q => ?_) 1000 le_rfl q
    refine table_apply arg5 _ (fun p q => ?_) p q _
    rw [q24]
    exact hits_apply H hlg p q
  have e26 : kernelRun0_A.sl.r_26 c i arg1 harg1 arg2 harg2 arg3 harg3 arg4 harg4 arg5 harg5 x0 x1 x2 = k0_pay40 (kernelRun0_A.sl.r_25 c i arg1 harg1 arg2 harg2 arg3 harg3 arg4 harg4 arg5 harg5 x0 x1 x2) := by
    delta kernelRun0_A.sl.r_26 kernelRun0_A.sl.r_25; rfl
  have e27 : kernelRun0_A.sl.r_27 c i arg1 harg1 arg2 harg2 arg3 harg3 arg4 harg4 arg5 harg5 x0 x1 x2 = k0_pay44 (kernelRun0_A.sl.r_25 c i arg1 harg1 arg2 harg2 arg3 harg3 arg4 harg4 arg5 harg5 x0 x1 x2) := by
    delta kernelRun0_A.sl.r_27 kernelRun0_A.sl.r_25; rfl
  have e28 : kernelRun0_A.sl.r_28 c i arg1 harg1 arg2 harg2 arg3 harg3 arg4 harg4 arg5 harg5 x0 x1 x2 = k0_pay45 (kernelRun0_A.sl.r_23 c arg1 harg1 arg2 harg2 arg3 harg3 x0 x1 x2) (kernelRun0_A.sl.r_25 c i arg1 harg1 arg2 harg2 arg3 harg3 arg4 harg4 arg5 harg5 x0 x1 x2) := by
    delta kernelRun0_A.sl.r_28 kernelRun0_A.sl.r_25; rfl
  have e29 : kernelRun0_A.sl.r_29 c i arg1 harg1 arg2 harg2 arg3 harg3 arg4 harg4 arg5 harg5 x0 x1 x2 = k0_pay46 (kernelRun0_A.sl.r_23 c arg1 harg1 arg2 harg2 arg3 harg3 x0 x1 x2) (kernelRun0_A.sl.r_25 c i arg1 harg1 arg2 harg2 arg3 harg3 arg4 harg4 arg5 harg5 x0 x1 x2) := by
    delta kernelRun0_A.sl.r_29 kernelRun0_A.sl.r_25; rfl
  have e30 : kernelRun0_A.sl.r_30 c i arg1 harg1 arg2 harg2 arg3 harg3 arg4 harg4 arg5 harg5 x0 x1 x2 = k0_pay47 (kernelRun0_A.sl.r_23 c arg1 harg1 arg2 harg2 arg3 harg3 x0 x1 x2) (kernelRun0_A.sl.r_25 c i arg1 harg1 arg2 harg2 arg3 harg3 arg4 harg4 arg5 harg5 x0 x1 x2) := by
    delta kernelRun0_A.sl.r_30 kernelRun0_A.sl.r_25; rfl
  have e31 : kernelRun0_A.sl.r_31 c i arg1 harg1 arg2 harg2 arg3 harg3 arg4 harg4 arg5 harg5 x0 x1 x2 = k0_pay48 (kernelRun0_A.sl.r_23 c arg1 harg1 arg2 harg2 arg3 harg3 x0 x1 x2) (kernelRun0_A.sl.r_25 c i arg1 harg1 arg2 harg2 arg3 harg3 arg4 harg4 arg5 harg5 x0 x1 x2) := by
    delta kernelRun0_A.sl.r_31 kernelRun0_A.sl.r_25; rfl
  unfold out0_A_3 kernelRun0_A
  dsimp only
  refine (block_read _ r k).trans ?_
  rw [e26, e27, e28, e29, e30, e31]
  generalize kernelRun0_A.sl.r_25 c i arg1 harg1 arg2 harg2 arg3 harg3 arg4 harg4 arg5 harg5 x0 x1 x2 = w at hw ⊢
  delta kernelRun0_A.sl.r_18 kernelRun0_A.sl.r_19 kernelRun0_A.sl.r_20 kernelRun0_A.sl.r_21 kernelRun0_A.sl.r_22
  rw [q17, q23]
  refine best_apply _ _ (fun q => sorted_flag H hlg q) hw _ _ _ _ _ (fun p => ?_) (fun p => ?_) (fun p => ?_) (fun p => ?_) (fun p => ?_) r k
  · rw [← sorted_box H hlg p 0 0 rfl]; pointwise [k0_pay30]
  · rw [← sorted_box H hlg p 1 1 rfl]; pointwise [k0_pay31]
  · rw [← sorted_box H hlg p 2 2 rfl]; pointwise [k0_pay32]
  · rw [← sorted_box H hlg p 3 3 rfl]; pointwise [k0_pay33]
  · rw [← sorted_score H hlg p]; pointwise [k0_pay34]

end Run

end Cert.KernelIdeal.Hand

end
-- ==== Proof.KernelValue.lean ====
/- The kernel program's result at an index, in terms of its arguments. -/
module

public import proofs.«01_k».proof.Proof.KernelBlock
public import proofs.«01_k».proof.Proof.TopK

@[expose] public section

set_option maxRecDepth 16384

noncomputable section

namespace Cert.KernelIdeal.Hand

open Idealize.ShloMosaic Idealize.ShloMosaic.TcCoe
open Cert.KernelIdeal Cert.KernelIdeal.Gen Rpn

variable (m : (ℓ : Loc nD τ sig) → Buf (Elt Ideal) ℓ) (c : Dev nD)

/-- The kernel's three arguments, as arrays. -/
abbrev arg0 : S2x19200x4.Idx → EReal := m ((c : Thread nD τ).loc main_arg0)
/-- The second argument. -/
abbrev arg1 : S2x3x80x80.Idx → EReal := m ((c : Thread nD τ).loc main_arg1)
/-- The third argument. -/
abbrev arg2 : S2x12x80x80.Idx → EReal := m ((c : Thread nD τ).loc main_arg2)

/-! ## What the windows stage -/

/-- The first four columns of the table are the anchors. -/
theorem data_low (n : Fin 2) (s : Fin 19200) (d : Fin 4) :
    (V m c main_v5 : S2x19200x8.Idx → EReal) (ix3 n s ⟨d.val, by omega⟩) = arg0 m c (ix3 n s d) := by
  entry_read
  pointwise []

/-- Its last four columns are the regressions. -/
theorem data_high (n : Fin 2) (s : Fin 19200) (d : Fin 4) :
    (V m c main_v5 : S2x19200x8.Idx → EReal) (ix3 n s ⟨4 + d.val, by omega⟩) = flatReg (arg2 m c) n s d := by
  entry_read
  pointwise []
  unfold flatReg
  rfl

/-- The logits read flat are what the first sort reads. -/
theorem sorted_row (a1 : S2x3x80x80.Idx → EReal) (n : Fin 2) (i : Fin 1000) :
    (Host.topK S2x1000 1 (FloatOps.cmpfTotal (F := Ideal) (φ := .f32) .gt)
      (fun i : S2x19200.Idx => flatObj a1 (i 0) (i 1)) sliceFits_S2x19200_S2x1000).2 (ix2 n i)
      = BitVec.ofNat 32 (chosen a1 n i).val :=
  topK_idx (fun i : S2x19200.Idx => flatObj a1 (i 0) (i 1)) sliceFits_S2x19200_S2x1000 (by norm_num) n i

/-- The values of the first selection are the logits. -/
theorem sorted_val (a1 : S2x3x80x80.Idx → EReal) (n : Fin 2) (i : Fin 1000) :
    (Host.topK S2x1000 1 (FloatOps.cmpfTotal (F := Ideal) (φ := .f32) .gt)
      (fun i : S2x19200.Idx => flatObj a1 (i 0) (i 1)) sliceFits_S2x19200_S2x1000).1 (ix2 n i)
      = logits a1 n i :=
  topK_val (fun i : S2x19200.Idx => flatObj a1 (i 0) (i 1)) sliceFits_S2x19200_S2x1000 (by norm_num) n i

/-- The index operand holds the chosen anchors. -/
theorem index_apply (n : Fin 2) (i : Fin 1000) :
    (V m c main_v6 : S2x1000x1.Idx → BitVec 32) (ix3 n i 0) = BitVec.ofNat 32 (chosen (arg1 m c) n i).val := by
  rw [← sorted_row]
  unfold flatObj
  entry_read
  pointwise []
  rfl

/-- The logit operand holds their logits. -/
theorem logit_apply (n : Fin 2) (i : Fin 1000) :
    (V m c main_v7 : S2x1000x1.Idx → EReal) (ix3 n i 0) = logits (arg1 m c) n i := by
  rw [← sorted_val]
  unfold flatObj
  entry_read
  pointwise []
  rfl

/-! ## The windows' blocks -/

/-- The point of image `n`. -/
def pt (n : Fin 2) : Fin cfg0.N := ⟨n.val, n.isLt⟩

/-- At point `n` each window is at block `n`. -/
theorem idx_facts : ∀ n : Fin 2, (∀ a : Fin 3, win0_0.index (pt n) a = ![n.val, 0, 0] a) ∧ (∀ a : Fin 3, win0_1.index (pt n) a = ![n.val, 0, 0] a)
    ∧ (∀ a : Fin 3, win0_2.index (pt n) a = ![n.val, 0, 0] a) ∧ (∀ a : Fin 3, win0_3.index (pt n) a = ![n.val, 0, 0] a) := by
  decide +kernel

/-- The place of a block's element in the first operand. -/
theorem emb0 (n : Fin 2) (s : Fin 19200) (d : Fin 8) :
    ((cfg0.win 0).blk (pt n)).view.emb (ix3 0 s d : S1x19200x8.Idx) = (ix3 n s d : S2x19200x8.Idx) := by
  obtain ⟨h, -, -, -⟩ := idx_facts n
  funext a; apply Fin.ext
  match a with
  | ⟨0, _⟩ => show win0_0.index (pt n) (0 : Fin 3) * 1 + 1 * 0 = n.val; rw [h]; show n.val * 1 + 0 = _; omega
  | ⟨1, _⟩ => show win0_0.index (pt n) (1 : Fin 3) * 19200 + 1 * s.val = s.val; rw [h]; show 0 * _ + _ = _; omega
  | ⟨2, _⟩ => show win0_0.index (pt n) (2 : Fin 3) * 8 + 1 * d.val = d.val; rw [h]; show 0 * _ + _ = _; omega

/-- The place of a block's element in the second operand. -/
theorem emb1 (n : Fin 2) (s : Fin 1000) :
    ((cfg0.win 1).blk (pt n)).view.emb (ix3 0 s 0 : S1x1000x1.Idx) = (ix3 n s 0 : S2x1000x1.Idx) := by
  obtain ⟨-, h, -, -⟩ := idx_facts n
  funext a; apply Fin.ext
  match a with
  | ⟨0, _⟩ => show win0_1.index (pt n) (0 : Fin 3) * 1 + 1 * 0 = n.val; rw [h]; show n.val * 1 + 0 = _; omega
  | ⟨1, _⟩ => show win0_1.index (pt n) (1 : Fin 3) * 1000 + 1 * s.val = s.val; rw [h]; show 0 * _ + _ = _; omega
  | ⟨2, _⟩ => show win0_1.index (pt n) (2 : Fin 3) * 1 + 1 * 0 = 0; rw [h]; rfl

/-- The place of a block's element in the third operand. -/
theorem emb2 (n : Fin 2) (s : Fin 1000) :
    ((cfg0.win 2).blk (pt n)).view.emb (ix3 0 s 0 : S1x1000x1.Idx) = (ix3 n s 0 : S2x1000x1.Idx) := by
  obtain ⟨-, -, h, -⟩ := idx_facts n
  funext a; apply Fin.ext
  match a with
  | ⟨0, _⟩ => show win0_2.index (pt n) (0 : Fin 3) * 1 + 1 * 0 = n.val; rw [h]; show n.val * 1 + 0 = _; omega
  | ⟨1, _⟩ => show win0_2.index (pt n) (1 : Fin 3) * 1000 + 1 * s.val = s.val; rw [h]; show 0 * _ + _ = _; omega
  | ⟨2, _⟩ => show win0_2.index (pt n) (2 : Fin 3) * 1 + 1 * 0 = 0; rw [h]; rfl

/-- The place of a block's element in the result. -/
theorem emb3 (n : Fin 2) (s : Fin 300) (d : Fin 5) :
    ((cfg0.win 3).blk (pt n)).view.emb (ix3 0 s d : S1x300x5.Idx) = (ix3 n s d : S2x300x5.Idx) := by
  obtain ⟨-, -, -, h⟩ := idx_facts n
  funext a; apply Fin.ext
  match a with
  | ⟨0, _⟩ => show win0_3.index (pt n) (0 : Fin 3) * 1 + 1 * 0 = n.val; rw [h]; show n.val * 1 + 0 = _; omega
  | ⟨1, _⟩ => show win0_3.index (pt n) (1 : Fin 3) * 300 + 1 * s.val = s.val; rw [h]; show 0 * _ + _ = _; omega
  | ⟨2, _⟩ => show win0_3.index (pt n) (2 : Fin 3) * 5 + 1 * d.val = d.val; rw [h]; show 0 * _ + _ = _; omega

/-- The first block holds the image's table. -/
theorem blk0_apply (n : Fin 2) (s : Fin 19200) (d : Fin 8) :
    (iblk m c 0 (pt n) : S1x19200x8.Idx → EReal) (ix3 0 s d) = (V m c main_v5 : S2x19200x8.Idx → EReal) (ix3 n s d) := by
  show V m c main_v5 (((cfg0.win 0).blk (pt n)).view.emb (ix3 0 s d : S1x19200x8.Idx)) = _
  rw [emb0]

/-- The second block holds the image's chosen anchors. -/
theorem blk1_apply (n : Fin 2) (s : Fin 1000) :
    (iblk m c 1 (pt n) : S1x1000x1.Idx → BitVec 32) (ix3 0 s 0) = BitVec.ofNat 32 (chosen (arg1 m c) n s).val := by
  rw [← index_apply]
  show V m c main_v6 (((cfg0.win 1).blk (pt n)).view.emb (ix3 0 s 0 : S1x1000x1.Idx)) = _
  rw [emb1]

/-- The third block holds their logits. -/
theorem blk2_apply (n : Fin 2) (s : Fin 1000) :
    (iblk m c 2 (pt n) : S1x1000x1.Idx → EReal) (ix3 0 s 0) = logits (arg1 m c) n s := by
  rw [← logit_apply]
  show V m c main_v7 (((cfg0.win 2).blk (pt n)).view.emb (ix3 0 s 0 : S1x1000x1.Idx)) = _
  rw [emb2]

/-! ## The result -/

/-- The result's block is written back at every point. -/
theorem flush3 : ∀ n : Fin 2, (cfg0.win 3).flush (pt n) = true := by decide +kernel

/-- The kernel program's result at an index. -/
theorem result_apply (n : Fin 2) (r : Fin 300) (k : Fin 5) :
    ((dats m 0 c).arrAt 3 cfg0.N : S2x300x5.Idx → EReal) (ix3 n r k) = proposals (arg0 m c) (arg1 m c) (arg2 m c) n r k := by
  have b := congrFun (Cert.KernelIdeal.Value.blocks3 m c (pt n) (flush3 n)) (ix3 0 r k : S1x300x5.Idx)
  rw [Cert.KernelIdeal.Value.flushed3_A] at b
  have b' : ((dats m 0 c).arrAt 3 cfg0.N) (((cfg0.win 3).blk (pt n)).view.emb (ix3 0 r k : S1x300x5.Idx)) = _ := b
  rw [emb3] at b'
  refine b'.trans ((out_apply c (grid0.coords (pt n)) _ _ _ _ _ _ _ _ _ _ (iblk m c 0 (pt n)) (iblk m c 1 (pt n)) (iblk m c 2 (pt n))
    (chosen (arg1 m c) n) (blk1_apply m c n) (fun i j h => ?_) r k).trans ?_)
  · rw [blk2_apply, blk2_apply]
    exact logits_antitone _ n i j h
  · unfold proposals decoded
    have e0 : (fun (i : Fin 1000) (d : Fin 4) => (iblk m c 0 (pt n) : S1x19200x8.Idx → EReal)
        (ix3 0 (chosen (arg1 m c) n i) ⟨d.val, by omega⟩)) = fun i d => arg0 m c (ix3 n (chosen (arg1 m c) n i) d) :=
      funext fun i => funext fun d => (blk0_apply m c n _ _).trans (data_low m c n _ d)
    have e1 : (fun (i : Fin 1000) (d : Fin 4) => (iblk m c 0 (pt n) : S1x19200x8.Idx → EReal)
        (ix3 0 (chosen (arg1 m c) n i) ⟨4 + d.val, by omega⟩)) = fun i d => flatReg (arg2 m c) n (chosen (arg1 m c) n i) d :=
      funext fun i => funext fun d => (blk0_apply m c n _ _).trans (data_high m c n _ d)
    have e2 : (fun (i : Fin 1000) => (iblk m c 2 (pt n) : S1x1000x1.Idx → EReal) (ix3 0 i 0)) = logits (arg1 m c) n :=
      funext fun i => blk2_apply m c n i
    exact congrArg₂ (fun b lg => result b lg _ k) (congrArg₂ boxes e0 e1) e2

/-- The kernel program's run: its result is the problem's, and its arguments are as launched. -/
theorem run_proposals (ρ : Dev nD → PrngReg) :
    θ_run defs (onTc (τ := τ) (main (F := Ideal))) ⟨m, fun _ => 0, ρ⟩ fun r => ∀ c : Dev nD,
      r.2.mem ((c : Thread nD τ).loc main_v8)
        = (fun i : S2x300x5.Idx => proposals (arg0 m c) (arg1 m c) (arg2 m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by
    funext i
    idx_vars i
    exact result_apply m c _ _ _), (h c).2⟩) (Cert.KernelIdeal.Value.run_blocks m ρ)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceValue
public import proofs.«01_k».proof.Proof.KernelValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ,
    fun m ρ _ => Cert.ReferenceIdeal.Hand.frame m ρ, trivial, fun m ρ m' ρ' _ hag =>
    ⟨fun c => fun i : Cert.KernelIdeal.S2x300x5.Idx => Rpn.proposals (Cert.KernelIdeal.Hand.arg0 m c) (Cert.KernelIdeal.Hand.arg1 m c)
        (Cert.KernelIdeal.Hand.arg2 m c) (i 0) (i 1) (i 2),
      Cert.KernelIdeal.Hand.run_proposals m ρ,
      (θ_run _ _ _).mono (fun _ hr c => ⟨(hr c).1.trans (by
        rw [(hag c).1, (hag c).2.1, (hag c).2.2]), (hr c).2⟩) (Cert.ReferenceIdeal.Hand.run_proposals m' ρ')⟩⟩⟩

end Cert.Proof

end
